-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S2048x128 : Shape := ⟨2, ![2048, 128]⟩
abbrev S28x128x2048 : Shape := ⟨3, ![28, 128, 2048]⟩
abbrev S6x4 : Shape := ⟨2, ![6, 4]⟩
abbrev S7x12 : Shape := ⟨2, ![7, 12]⟩
abbrev S_ : Shape := ⟨0, ![]⟩
abbrev S1x128x2048 : Shape := ⟨3, ![1, 128, 2048]⟩
abbrev S1x1 : Shape := ⟨2, ![1, 1]⟩
abbrev S1x32x2048 : Shape := ⟨3, ![1, 32, 2048]⟩
abbrev S32x2048 : Shape := ⟨2, ![32, 2048]⟩
abbrev S128x128 : Shape := ⟨2, ![128, 128]⟩

abbrev nBuf : Space → Nat
  | .hbm => 3
  | .vmem => 5
  | .smem => 0
  | _ => 0

abbrev bufTy : (tb : Table) → Fin (tcTables nBuf tb) → BufTy
  | .hbm, ⟨0, _⟩ => ⟨S128x2048, .bf16⟩
  | .hbm, ⟨1, _⟩ => ⟨S2048x128, .bf16⟩
  | .hbm, ⟨2, _⟩ => ⟨S2048x128, .f32⟩
  | .local _ .vmem, ⟨0, _⟩ => ⟨S128x2048, .bf16⟩
  | .local _ .vmem, ⟨1, _⟩ => ⟨S2048x128, .bf16⟩
  | .local _ .vmem, ⟨2, _⟩ => ⟨S2048x128, .f32⟩
  | .local _ .vmem, ⟨3, _⟩ => ⟨S28x128x2048, .bf16⟩
  | .local _ .vmem, ⟨4, _⟩ => ⟨S2048x128, .bf16⟩
  | _, _ => ⟨S128x2048, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 219 → Bool
  | ⟨i, _⟩ => dmaSemScopedAt i

abbrev sig : RefSig :=
  (ofTc nBuf bufTy 1 219 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_32 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_31 : BitVec 32 := 1#32
  let v61 : BitVec 32 := Scalar.muli v57 c1_i32_31
  let v62 : BitVec 32 := Scalar.addi c0_i32_32 v61
  v62.toNat
def k0_dev2 (d0 : Dev nD) : Nat :=
  let c0_i32_35 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_34 : BitVec 32 := 1#32
  let v63 : BitVec 32 := Scalar.muli v44 c1_i32_34
  let v64 : BitVec 32 := Scalar.addi c0_i32_35 v63
  v64.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_28 : BitVec 32 := 3#32
  let v58 : BitVec 1 := Scalar.cmpi .slt v19 c3_i32_28
  let v65 : BitVec 32 := Scalar.extui v58
  let c0_i32_36 : BitVec 32 := 0#32
  let v66 : BitVec 1 := Scalar.cmpi .ne v65 c0_i32_36
  v66

def k0_dev3 (d0 : Dev nD) : Nat :=
  let c0_i32_2579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v30 : BitVec 32 := Scalar.addi v2 c4_i32_11
  let c1_i32_2578 : BitVec 32 := 1#32
  let v1157 : BitVec 32 := Scalar.muli v30 c1_i32_2578
  let v1158 : BitVec 32 := Scalar.addi c0_i32_2579 v1157
  v1158.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_29 : BitVec 32 := 0#32
  let v59 : BitVec 1 := Scalar.cmpi .sgt v19 c0_i32_29
  let v67 : BitVec 32 := Scalar.extui v59
  let c0_i32_37 : BitVec 32 := 0#32
  let v68 : BitVec 1 := Scalar.cmpi .ne v67 c0_i32_37
  v68

def k0_dev4 (d0 : Dev nD) : Nat :=
  let c0_i32_2579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v31 : BitVec 32 := Scalar.subi v2 c4_i32_12
  let c1_i32_2578 : BitVec 32 := 1#32
  let v1157 : BitVec 32 := Scalar.muli v31 c1_i32_2578
  let v1158 : BitVec 32 := Scalar.addi c0_i32_2579 v1157
  v1158.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_28 : BitVec 32 := 3#32
  let v58 : BitVec 1 := Scalar.cmpi .slt v19 c3_i32_28
  let v78 : BitVec 32 := Scalar.extui v58
  let c0_i32_50 : BitVec 32 := 0#32
  let v79 : BitVec 1 := Scalar.cmpi .ne v78 c0_i32_50
  v79

def k0_dev5 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v30 : BitVec 32 := Scalar.addi v2 c4_i32_11
  let c1_i32_2577 : BitVec 32 := 1#32
  let v1157 : BitVec 32 := Scalar.muli v30 c1_i32_2577
  let v1158 : BitVec 32 := Scalar.addi c0_i32_2578 v1157
  v1158.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_29 : BitVec 32 := 0#32
  let v59 : BitVec 1 := Scalar.cmpi .sgt v19 c0_i32_29
  let v80 : BitVec 32 := Scalar.extui v59
  let c0_i32_57 : BitVec 32 := 0#32
  let v81 : BitVec 1 := Scalar.cmpi .ne v80 c0_i32_57
  v81

def k0_dev6 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v31 : BitVec 32 := Scalar.subi v2 c4_i32_12
  let c1_i32_2577 : BitVec 32 := 1#32
  let v1157 : BitVec 32 := Scalar.muli v31 c1_i32_2577
  let v1158 : BitVec 32 := Scalar.addi c0_i32_2578 v1157
  v1158.toNat
def k0_dev7 (d0 : Dev nD) : Nat :=
  let c0_i32_64 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_63 : BitVec 32 := 1#32
  let v82 : BitVec 32 := Scalar.muli v44 c1_i32_63
  let v83 : BitVec 32 := Scalar.addi c0_i32_64 v82
  v83.toNat
def k0_dev8 (d0 : Dev nD) : Nat :=
  let c0_i32_75 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_74 : BitVec 32 := 1#32
  let v92 : BitVec 32 := Scalar.muli v57 c1_i32_74
  let v93 : BitVec 32 := Scalar.addi c0_i32_75 v92
  v93.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_28 : BitVec 32 := 3#32
  let v58 : BitVec 1 := Scalar.cmpi .slt v19 c3_i32_28
  let v102 : BitVec 32 := Scalar.extui v58
  let c0_i32_86 : BitVec 32 := 0#32
  let v103 : BitVec 1 := Scalar.cmpi .ne v102 c0_i32_86
  v103

def k0_dev9 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v30 : BitVec 32 := Scalar.addi v2 c4_i32_11
  let c1_i32_2577 : BitVec 32 := 1#32
  let v1157 : BitVec 32 := Scalar.muli v30 c1_i32_2577
  let v1158 : BitVec 32 := Scalar.addi c0_i32_2578 v1157
  v1158.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_29 : BitVec 32 := 0#32
  let v59 : BitVec 1 := Scalar.cmpi .sgt v19 c0_i32_29
  let v104 : BitVec 32 := Scalar.extui v59
  let c0_i32_93 : BitVec 32 := 0#32
  let v105 : BitVec 1 := Scalar.cmpi .ne v104 c0_i32_93
  v105

def k0_dev10 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v31 : BitVec 32 := Scalar.subi v2 c4_i32_12
  let c1_i32_2577 : BitVec 32 := 1#32
  let v1157 : BitVec 32 := Scalar.muli v31 c1_i32_2577
  let v1158 : BitVec 32 := Scalar.addi c0_i32_2578 v1157
  v1158.toNat
def k0_dev11 (d0 : Dev nD) : Nat :=
  let c0_i32_101 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_100 : BitVec 32 := 1#32
  let v106 : BitVec 32 := Scalar.muli v44 c1_i32_100
  let v107 : BitVec 32 := Scalar.addi c0_i32_101 v106
  v107.toNat
def k0_dev12 (d0 : Dev nD) : Nat :=
  let c0_i32_111 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_110 : BitVec 32 := 1#32
  let v116 : BitVec 32 := Scalar.muli v57 c1_i32_110
  let v117 : BitVec 32 := Scalar.addi c0_i32_111 v116
  v117.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_28 : BitVec 32 := 3#32
  let v58 : BitVec 1 := Scalar.cmpi .slt v19 c3_i32_28
  let v126 : BitVec 32 := Scalar.extui v58
  let c0_i32_122 : BitVec 32 := 0#32
  let v127 : BitVec 1 := Scalar.cmpi .ne v126 c0_i32_122
  v127

def k0_dev13 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v30 : BitVec 32 := Scalar.addi v2 c4_i32_11
  let c1_i32_2577 : BitVec 32 := 1#32
  let v1157 : BitVec 32 := Scalar.muli v30 c1_i32_2577
  let v1158 : BitVec 32 := Scalar.addi c0_i32_2578 v1157
  v1158.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_29 : BitVec 32 := 0#32
  let v59 : BitVec 1 := Scalar.cmpi .sgt v19 c0_i32_29
  let v128 : BitVec 32 := Scalar.extui v59
  let c0_i32_129 : BitVec 32 := 0#32
  let v129 : BitVec 1 := Scalar.cmpi .ne v128 c0_i32_129
  v129

def k0_dev14 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v31 : BitVec 32 := Scalar.subi v2 c4_i32_12
  let c1_i32_2577 : BitVec 32 := 1#32
  let v1157 : BitVec 32 := Scalar.muli v31 c1_i32_2577
  let v1158 : BitVec 32 := Scalar.addi c0_i32_2578 v1157
  v1158.toNat
def k0_dev15 (d0 : Dev nD) : Nat :=
  let c0_i32_137 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_136 : BitVec 32 := 1#32
  let v130 : BitVec 32 := Scalar.muli v44 c1_i32_136
  let v131 : BitVec 32 := Scalar.addi c0_i32_137 v130
  v131.toNat
def k0_dev16 (d0 : Dev nD) : Nat :=
  let c0_i32_147 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_146 : BitVec 32 := 1#32
  let v140 : BitVec 32 := Scalar.muli v57 c1_i32_146
  let v141 : BitVec 32 := Scalar.addi c0_i32_147 v140
  v141.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_28 : BitVec 32 := 3#32
  let v58 : BitVec 1 := Scalar.cmpi .slt v19 c3_i32_28
  let v150 : BitVec 32 := Scalar.extui v58
  let c0_i32_158 : BitVec 32 := 0#32
  let v151 : BitVec 1 := Scalar.cmpi .ne v150 c0_i32_158
  v151

def k0_dev17 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v30 : BitVec 32 := Scalar.addi v2 c4_i32_11
  let c1_i32_2577 : BitVec 32 := 1#32
  let v1157 : BitVec 32 := Scalar.muli v30 c1_i32_2577
  let v1158 : BitVec 32 := Scalar.addi c0_i32_2578 v1157
  v1158.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_29 : BitVec 32 := 0#32
  let v59 : BitVec 1 := Scalar.cmpi .sgt v19 c0_i32_29
  let v152 : BitVec 32 := Scalar.extui v59
  let c0_i32_165 : BitVec 32 := 0#32
  let v153 : BitVec 1 := Scalar.cmpi .ne v152 c0_i32_165
  v153

def k0_dev18 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v31 : BitVec 32 := Scalar.subi v2 c4_i32_12
  let c1_i32_2577 : BitVec 32 := 1#32
  let v1157 : BitVec 32 := Scalar.muli v31 c1_i32_2577
  let v1158 : BitVec 32 := Scalar.addi c0_i32_2578 v1157
  v1158.toNat
def k0_dev19 (d0 : Dev nD) : Nat :=
  let c0_i32_173 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_172 : BitVec 32 := 1#32
  let v154 : BitVec 32 := Scalar.muli v44 c1_i32_172
  let v155 : BitVec 32 := Scalar.addi c0_i32_173 v154
  v155.toNat
def k0_dev20 (d0 : Dev nD) : Nat :=
  let c0_i32_184 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_183 : BitVec 32 := 1#32
  let v164 : BitVec 32 := Scalar.muli v57 c1_i32_183
  let v165 : BitVec 32 := Scalar.addi c0_i32_184 v164
  v165.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v196 : BitVec 32 := Scalar.muli v2 c128_i32
  let v197 : Index := Scalar.indexCast v196
  let c0_202 : Index := 0#32
  ![v197.toNat, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v199 : BitVec 1 := Scalar.cmpi .sge v19 c1_i32_203
  let c3_i32_28 : BitVec 32 := 3#32
  let v58 : BitVec 1 := Scalar.cmpi .slt v19 c3_i32_28
  let v202 : BitVec 1 := Scalar.andi v199 v58
  let v203 : BitVec 32 := Scalar.extui v202
  let c0_i32_217 : BitVec 32 := 0#32
  let v204 : BitVec 1 := Scalar.cmpi .ne v203 c0_i32_217
  v204

def k0_dev21 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v30 : BitVec 32 := Scalar.addi v2 c4_i32_11
  let c1_i32_2577 : BitVec 32 := 1#32
  let v1157 : BitVec 32 := Scalar.muli v30 c1_i32_2577
  let v1158 : BitVec 32 := Scalar.addi c0_i32_2578 v1157
  v1158.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v199 : BitVec 1 := Scalar.cmpi .sge v19 c1_i32_203
  let v205 : BitVec 32 := Scalar.extui v199
  let c0_i32_223 : BitVec 32 := 0#32
  let v206 : BitVec 1 := Scalar.cmpi .ne v205 c0_i32_223
  v206

def k0_dev22 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v199 : BitVec 1 := Scalar.cmpi .sge v19 c1_i32_203
  let v207 : BitVec 32 := Scalar.extui v199
  let c0_i32_229 : BitVec 32 := 0#32
  let v208 : BitVec 1 := Scalar.cmpi .ne v207 c0_i32_229
  v208

def k0_dev23 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v199 : BitVec 1 := Scalar.cmpi .sge v19 c1_i32_203
  let c3_i32_28 : BitVec 32 := 3#32
  let v58 : BitVec 1 := Scalar.cmpi .slt v19 c3_i32_28
  let v211 : BitVec 1 := Scalar.andi v199 v58
  let v212 : BitVec 32 := Scalar.extui v211
  let c0_i32_243 : BitVec 32 := 0#32
  let v213 : BitVec 1 := Scalar.cmpi .ne v212 c0_i32_243
  v213

def k0_dev24 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v30 : BitVec 32 := Scalar.addi v2 c4_i32_11
  let c1_i32_2577 : BitVec 32 := 1#32
  let v1157 : BitVec 32 := Scalar.muli v30 c1_i32_2577
  let v1158 : BitVec 32 := Scalar.addi c0_i32_2578 v1157
  v1158.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v199 : BitVec 1 := Scalar.cmpi .sge v19 c1_i32_203
  let v214 : BitVec 32 := Scalar.extui v199
  let c0_i32_250 : BitVec 32 := 0#32
  let v215 : BitVec 1 := Scalar.cmpi .ne v214 c0_i32_250
  v215

def k0_dev25 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v199 : BitVec 1 := Scalar.cmpi .sge v19 c1_i32_203
  let v216 : BitVec 32 := Scalar.extui v199
  let c0_i32_257 : BitVec 32 := 0#32
  let v217 : BitVec 1 := Scalar.cmpi .ne v216 c0_i32_257
  v217

def k0_dev26 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v199 : BitVec 1 := Scalar.cmpi .sge v19 c1_i32_203
  let c3_i32_28 : BitVec 32 := 3#32
  let v58 : BitVec 1 := Scalar.cmpi .slt v19 c3_i32_28
  let v220 : BitVec 1 := Scalar.andi v199 v58
  let v221 : BitVec 32 := Scalar.extui v220
  let c0_i32_271 : BitVec 32 := 0#32
  let v222 : BitVec 1 := Scalar.cmpi .ne v221 c0_i32_271
  v222

def k0_dev27 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v30 : BitVec 32 := Scalar.addi v2 c4_i32_11
  let c1_i32_2577 : BitVec 32 := 1#32
  let v1157 : BitVec 32 := Scalar.muli v30 c1_i32_2577
  let v1158 : BitVec 32 := Scalar.addi c0_i32_2578 v1157
  v1158.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v199 : BitVec 1 := Scalar.cmpi .sge v19 c1_i32_203
  let v223 : BitVec 32 := Scalar.extui v199
  let c0_i32_278 : BitVec 32 := 0#32
  let v224 : BitVec 1 := Scalar.cmpi .ne v223 c0_i32_278
  v224

def k0_dev28 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v199 : BitVec 1 := Scalar.cmpi .sge v19 c1_i32_203
  let v225 : BitVec 32 := Scalar.extui v199
  let c0_i32_285 : BitVec 32 := 0#32
  let v226 : BitVec 1 := Scalar.cmpi .ne v225 c0_i32_285
  v226

def k0_dev29 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v199 : BitVec 1 := Scalar.cmpi .sge v19 c1_i32_203
  let c3_i32_28 : BitVec 32 := 3#32
  let v58 : BitVec 1 := Scalar.cmpi .slt v19 c3_i32_28
  let v229 : BitVec 1 := Scalar.andi v199 v58
  let v230 : BitVec 32 := Scalar.extui v229
  let c0_i32_299 : BitVec 32 := 0#32
  let v231 : BitVec 1 := Scalar.cmpi .ne v230 c0_i32_299
  v231

def k0_dev30 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v30 : BitVec 32 := Scalar.addi v2 c4_i32_11
  let c1_i32_2577 : BitVec 32 := 1#32
  let v1157 : BitVec 32 := Scalar.muli v30 c1_i32_2577
  let v1158 : BitVec 32 := Scalar.addi c0_i32_2578 v1157
  v1158.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v199 : BitVec 1 := Scalar.cmpi .sge v19 c1_i32_203
  let v232 : BitVec 32 := Scalar.extui v199
  let c0_i32_306 : BitVec 32 := 0#32
  let v233 : BitVec 1 := Scalar.cmpi .ne v232 c0_i32_306
  v233

def k0_dev31 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v199 : BitVec 1 := Scalar.cmpi .sge v19 c1_i32_203
  let v234 : BitVec 32 := Scalar.extui v199
  let c0_i32_313 : BitVec 32 := 0#32
  let v235 : BitVec 1 := Scalar.cmpi .ne v234 c0_i32_313
  v235

def k0_dev32 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_203 : BitVec 32 := 1#32
  let v199 : BitVec 1 := Scalar.cmpi .sge v19 c1_i32_203
  let v236 : BitVec 32 := Scalar.extui v199
  let c0_i32_314 : BitVec 32 := 0#32
  let v237 : BitVec 1 := Scalar.cmpi .ne v236 c0_i32_314
  v237

def k0_off2 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2593 : BitVec 32 := 1#32
  let v1185 : BitVec 32 := Scalar.subi v19 c1_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_2586 : BitVec 32 := 0#32
  let v1174 : BitVec 32 := Scalar.addi v29 c0_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_315 : BitVec 32 := 1#32
  let v238 : BitVec 32 := Scalar.addi v19 c1_i32_315
  let c3_i32_316 : BitVec 32 := 3#32
  let v239 : BitVec 1 := Scalar.cmpi .sle v238 c3_i32_316
  let c0_i32_29 : BitVec 32 := 0#32
  let v59 : BitVec 1 := Scalar.cmpi .sgt v19 c0_i32_29
  let v242 : BitVec 1 := Scalar.andi v239 v59
  let v243 : BitVec 32 := Scalar.extui v242
  let c0_i32_330 : BitVec 32 := 0#32
  let v244 : BitVec 1 := Scalar.cmpi .ne v243 c0_i32_330
  v244

def k0_dev33 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v31 : BitVec 32 := Scalar.subi v2 c4_i32_12
  let c1_i32_2577 : BitVec 32 := 1#32
  let v1157 : BitVec 32 := Scalar.muli v31 c1_i32_2577
  let v1158 : BitVec 32 := Scalar.addi c0_i32_2578 v1157
  v1158.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_315 : BitVec 32 := 1#32
  let v238 : BitVec 32 := Scalar.addi v19 c1_i32_315
  let c3_i32_316 : BitVec 32 := 3#32
  let v239 : BitVec 1 := Scalar.cmpi .sle v238 c3_i32_316
  let v245 : BitVec 32 := Scalar.extui v239
  let c0_i32_336 : BitVec 32 := 0#32
  let v246 : BitVec 1 := Scalar.cmpi .ne v245 c0_i32_336
  v246

def k0_dev34 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_315 : BitVec 32 := 1#32
  let v238 : BitVec 32 := Scalar.addi v19 c1_i32_315
  let c3_i32_316 : BitVec 32 := 3#32
  let v239 : BitVec 1 := Scalar.cmpi .sle v238 c3_i32_316
  let v247 : BitVec 32 := Scalar.extui v239
  let c0_i32_342 : BitVec 32 := 0#32
  let v248 : BitVec 1 := Scalar.cmpi .ne v247 c0_i32_342
  v248

def k0_dev35 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_315 : BitVec 32 := 1#32
  let v238 : BitVec 32 := Scalar.addi v19 c1_i32_315
  let c3_i32_316 : BitVec 32 := 3#32
  let v239 : BitVec 1 := Scalar.cmpi .sle v238 c3_i32_316
  let c0_i32_29 : BitVec 32 := 0#32
  let v59 : BitVec 1 := Scalar.cmpi .sgt v19 c0_i32_29
  let v251 : BitVec 1 := Scalar.andi v239 v59
  let v252 : BitVec 32 := Scalar.extui v251
  let c0_i32_356 : BitVec 32 := 0#32
  let v253 : BitVec 1 := Scalar.cmpi .ne v252 c0_i32_356
  v253

def k0_dev36 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v31 : BitVec 32 := Scalar.subi v2 c4_i32_12
  let c1_i32_2577 : BitVec 32 := 1#32
  let v1157 : BitVec 32 := Scalar.muli v31 c1_i32_2577
  let v1158 : BitVec 32 := Scalar.addi c0_i32_2578 v1157
  v1158.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_315 : BitVec 32 := 1#32
  let v238 : BitVec 32 := Scalar.addi v19 c1_i32_315
  let c3_i32_316 : BitVec 32 := 3#32
  let v239 : BitVec 1 := Scalar.cmpi .sle v238 c3_i32_316
  let v254 : BitVec 32 := Scalar.extui v239
  let c0_i32_363 : BitVec 32 := 0#32
  let v255 : BitVec 1 := Scalar.cmpi .ne v254 c0_i32_363
  v255

def k0_dev37 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_315 : BitVec 32 := 1#32
  let v238 : BitVec 32 := Scalar.addi v19 c1_i32_315
  let c3_i32_316 : BitVec 32 := 3#32
  let v239 : BitVec 1 := Scalar.cmpi .sle v238 c3_i32_316
  let v256 : BitVec 32 := Scalar.extui v239
  let c0_i32_370 : BitVec 32 := 0#32
  let v257 : BitVec 1 := Scalar.cmpi .ne v256 c0_i32_370
  v257

def k0_dev38 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_315 : BitVec 32 := 1#32
  let v238 : BitVec 32 := Scalar.addi v19 c1_i32_315
  let c3_i32_316 : BitVec 32 := 3#32
  let v239 : BitVec 1 := Scalar.cmpi .sle v238 c3_i32_316
  let c0_i32_29 : BitVec 32 := 0#32
  let v59 : BitVec 1 := Scalar.cmpi .sgt v19 c0_i32_29
  let v260 : BitVec 1 := Scalar.andi v239 v59
  let v261 : BitVec 32 := Scalar.extui v260
  let c0_i32_384 : BitVec 32 := 0#32
  let v262 : BitVec 1 := Scalar.cmpi .ne v261 c0_i32_384
  v262

def k0_dev39 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v31 : BitVec 32 := Scalar.subi v2 c4_i32_12
  let c1_i32_2577 : BitVec 32 := 1#32
  let v1157 : BitVec 32 := Scalar.muli v31 c1_i32_2577
  let v1158 : BitVec 32 := Scalar.addi c0_i32_2578 v1157
  v1158.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_315 : BitVec 32 := 1#32
  let v238 : BitVec 32 := Scalar.addi v19 c1_i32_315
  let c3_i32_316 : BitVec 32 := 3#32
  let v239 : BitVec 1 := Scalar.cmpi .sle v238 c3_i32_316
  let v263 : BitVec 32 := Scalar.extui v239
  let c0_i32_391 : BitVec 32 := 0#32
  let v264 : BitVec 1 := Scalar.cmpi .ne v263 c0_i32_391
  v264

def k0_dev40 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_315 : BitVec 32 := 1#32
  let v238 : BitVec 32 := Scalar.addi v19 c1_i32_315
  let c3_i32_316 : BitVec 32 := 3#32
  let v239 : BitVec 1 := Scalar.cmpi .sle v238 c3_i32_316
  let v265 : BitVec 32 := Scalar.extui v239
  let c0_i32_398 : BitVec 32 := 0#32
  let v266 : BitVec 1 := Scalar.cmpi .ne v265 c0_i32_398
  v266

def k0_dev41 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_315 : BitVec 32 := 1#32
  let v238 : BitVec 32 := Scalar.addi v19 c1_i32_315
  let c3_i32_316 : BitVec 32 := 3#32
  let v239 : BitVec 1 := Scalar.cmpi .sle v238 c3_i32_316
  let c0_i32_29 : BitVec 32 := 0#32
  let v59 : BitVec 1 := Scalar.cmpi .sgt v19 c0_i32_29
  let v269 : BitVec 1 := Scalar.andi v239 v59
  let v270 : BitVec 32 := Scalar.extui v269
  let c0_i32_412 : BitVec 32 := 0#32
  let v271 : BitVec 1 := Scalar.cmpi .ne v270 c0_i32_412
  v271

def k0_dev42 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v31 : BitVec 32 := Scalar.subi v2 c4_i32_12
  let c1_i32_2577 : BitVec 32 := 1#32
  let v1157 : BitVec 32 := Scalar.muli v31 c1_i32_2577
  let v1158 : BitVec 32 := Scalar.addi c0_i32_2578 v1157
  v1158.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_315 : BitVec 32 := 1#32
  let v238 : BitVec 32 := Scalar.addi v19 c1_i32_315
  let c3_i32_316 : BitVec 32 := 3#32
  let v239 : BitVec 1 := Scalar.cmpi .sle v238 c3_i32_316
  let v272 : BitVec 32 := Scalar.extui v239
  let c0_i32_419 : BitVec 32 := 0#32
  let v273 : BitVec 1 := Scalar.cmpi .ne v272 c0_i32_419
  v273

def k0_dev43 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_315 : BitVec 32 := 1#32
  let v238 : BitVec 32 := Scalar.addi v19 c1_i32_315
  let c3_i32_316 : BitVec 32 := 3#32
  let v239 : BitVec 1 := Scalar.cmpi .sle v238 c3_i32_316
  let v274 : BitVec 32 := Scalar.extui v239
  let c0_i32_426 : BitVec 32 := 0#32
  let v275 : BitVec 1 := Scalar.cmpi .ne v274 c0_i32_426
  v275

def k0_dev44 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_315 : BitVec 32 := 1#32
  let v238 : BitVec 32 := Scalar.addi v19 c1_i32_315
  let c3_i32_316 : BitVec 32 := 3#32
  let v239 : BitVec 1 := Scalar.cmpi .sle v238 c3_i32_316
  let v276 : BitVec 32 := Scalar.extui v239
  let c0_i32_427 : BitVec 32 := 0#32
  let v277 : BitVec 1 := Scalar.cmpi .ne v276 c0_i32_427
  v277

def k0_off3 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2593 : BitVec 32 := 1#32
  let v1185 : BitVec 32 := Scalar.addi v19 c1_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_2586 : BitVec 32 := 0#32
  let v1174 : BitVec 32 := Scalar.addi v29 c0_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_dev45 (d0 : Dev nD) : Nat :=
  let c0_i32_446 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_445 : BitVec 32 := 1#32
  let v286 : BitVec 32 := Scalar.muli v44 c1_i32_445
  let v287 : BitVec 32 := Scalar.addi c0_i32_446 v286
  v287.toNat
def k0_dev46 (d0 : Dev nD) : Nat :=
  let c0_i32_469 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_468 : BitVec 32 := 1#32
  let v304 : BitVec 32 := Scalar.muli v44 c1_i32_468
  let v305 : BitVec 32 := Scalar.addi c0_i32_469 v304
  v305.toNat
def k0_dev47 (d0 : Dev nD) : Nat :=
  let c0_i32_492 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_491 : BitVec 32 := 1#32
  let v322 : BitVec 32 := Scalar.muli v57 c1_i32_491
  let v323 : BitVec 32 := Scalar.addi c0_i32_492 v322
  v323.toNat
def k0_dev48 (d0 : Dev nD) : Nat :=
  let c0_i32_516 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_515 : BitVec 32 := 1#32
  let v340 : BitVec 32 := Scalar.muli v57 c1_i32_515
  let v341 : BitVec 32 := Scalar.addi c0_i32_516 v340
  v341.toNat
def k0_off4 (d0 : Dev nD) (c3_i32_578 : BitVec 32) : Fin 2 → Nat :=
  let c4_i32_585 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v410 : BitVec 32 := Scalar.muli c4_i32_585 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v399 : BitVec 32 := Scalar.addi v29 c3_i32_578
  let c4_i32_579 : BitVec 32 := 4#32
  let c0_i32_580 : BitVec 32 := 0#32
  let v400 : BitVec 1 := Scalar.cmpi .eq c4_i32_579 c0_i32_580
  let c1_i32_581 : BitVec 32 := 1#32
  let v401 : BitVec 32 := Scalar.select v400 c1_i32_581 c4_i32_579
  let v402 : BitVec 32 := Scalar.remsi v399 v401
  let c0_i32_583 : BitVec 32 := 0#32
  let v404 : BitVec 1 := Scalar.cmpi .slt v402 c0_i32_583
  let c0_i32_584 : BitVec 32 := 0#32
  let v405 : BitVec 1 := Scalar.cmpi .slt v401 c0_i32_584
  let v406 : BitVec 1 := Scalar.xori v404 v405
  let c0_i32_582 : BitVec 32 := 0#32
  let v403 : BitVec 1 := Scalar.cmpi .ne v402 c0_i32_582
  let v407 : BitVec 1 := Scalar.andi v406 v403
  let v408 : BitVec 32 := Scalar.addi v402 v401
  let v409 : BitVec 32 := Scalar.select v407 v408 v402
  let v411 : BitVec 32 := Scalar.addi v410 v409
  let c128_i32_586 : BitVec 32 := 128#32
  let v412 : BitVec 32 := Scalar.muli v411 c128_i32_586
  let v413 : Index := Scalar.indexCast v412
  let c0_587 : Index := 0#32
  ![v413.toNat, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_607 : BitVec 32 := 2#32
  let v448 : BitVec 1 := Scalar.cmpi .sge v19 c2_i32_607
  let c3_i32_28 : BitVec 32 := 3#32
  let v58 : BitVec 1 := Scalar.cmpi .slt v19 c3_i32_28
  let v451 : BitVec 1 := Scalar.andi v448 v58
  let v452 : BitVec 32 := Scalar.extui v451
  let c0_i32_621 : BitVec 32 := 0#32
  let v453 : BitVec 1 := Scalar.cmpi .ne v452 c0_i32_621
  v453

def k0_dev49 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v30 : BitVec 32 := Scalar.addi v2 c4_i32_11
  let c1_i32_2577 : BitVec 32 := 1#32
  let v1157 : BitVec 32 := Scalar.muli v30 c1_i32_2577
  let v1158 : BitVec 32 := Scalar.addi c0_i32_2578 v1157
  v1158.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_607 : BitVec 32 := 2#32
  let v448 : BitVec 1 := Scalar.cmpi .sge v19 c2_i32_607
  let v454 : BitVec 32 := Scalar.extui v448
  let c0_i32_628 : BitVec 32 := 0#32
  let v455 : BitVec 1 := Scalar.cmpi .ne v454 c0_i32_628
  v455

def k0_dev50 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_607 : BitVec 32 := 2#32
  let v448 : BitVec 1 := Scalar.cmpi .sge v19 c2_i32_607
  let v456 : BitVec 32 := Scalar.extui v448
  let c0_i32_635 : BitVec 32 := 0#32
  let v457 : BitVec 1 := Scalar.cmpi .ne v456 c0_i32_635
  v457

def k0_dev51 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_607 : BitVec 32 := 2#32
  let v448 : BitVec 1 := Scalar.cmpi .sge v19 c2_i32_607
  let c3_i32_28 : BitVec 32 := 3#32
  let v58 : BitVec 1 := Scalar.cmpi .slt v19 c3_i32_28
  let v460 : BitVec 1 := Scalar.andi v448 v58
  let v461 : BitVec 32 := Scalar.extui v460
  let c0_i32_649 : BitVec 32 := 0#32
  let v462 : BitVec 1 := Scalar.cmpi .ne v461 c0_i32_649
  v462

def k0_dev52 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v30 : BitVec 32 := Scalar.addi v2 c4_i32_11
  let c1_i32_2577 : BitVec 32 := 1#32
  let v1157 : BitVec 32 := Scalar.muli v30 c1_i32_2577
  let v1158 : BitVec 32 := Scalar.addi c0_i32_2578 v1157
  v1158.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_607 : BitVec 32 := 2#32
  let v448 : BitVec 1 := Scalar.cmpi .sge v19 c2_i32_607
  let v463 : BitVec 32 := Scalar.extui v448
  let c0_i32_656 : BitVec 32 := 0#32
  let v464 : BitVec 1 := Scalar.cmpi .ne v463 c0_i32_656
  v464

def k0_dev53 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_607 : BitVec 32 := 2#32
  let v448 : BitVec 1 := Scalar.cmpi .sge v19 c2_i32_607
  let v465 : BitVec 32 := Scalar.extui v448
  let c0_i32_663 : BitVec 32 := 0#32
  let v466 : BitVec 1 := Scalar.cmpi .ne v465 c0_i32_663
  v466

def k0_dev54 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_607 : BitVec 32 := 2#32
  let v448 : BitVec 1 := Scalar.cmpi .sge v19 c2_i32_607
  let c3_i32_28 : BitVec 32 := 3#32
  let v58 : BitVec 1 := Scalar.cmpi .slt v19 c3_i32_28
  let v469 : BitVec 1 := Scalar.andi v448 v58
  let v470 : BitVec 32 := Scalar.extui v469
  let c0_i32_677 : BitVec 32 := 0#32
  let v471 : BitVec 1 := Scalar.cmpi .ne v470 c0_i32_677
  v471

def k0_dev55 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v30 : BitVec 32 := Scalar.addi v2 c4_i32_11
  let c1_i32_2577 : BitVec 32 := 1#32
  let v1157 : BitVec 32 := Scalar.muli v30 c1_i32_2577
  let v1158 : BitVec 32 := Scalar.addi c0_i32_2578 v1157
  v1158.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_607 : BitVec 32 := 2#32
  let v448 : BitVec 1 := Scalar.cmpi .sge v19 c2_i32_607
  let v472 : BitVec 32 := Scalar.extui v448
  let c0_i32_684 : BitVec 32 := 0#32
  let v473 : BitVec 1 := Scalar.cmpi .ne v472 c0_i32_684
  v473

def k0_dev56 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_607 : BitVec 32 := 2#32
  let v448 : BitVec 1 := Scalar.cmpi .sge v19 c2_i32_607
  let v474 : BitVec 32 := Scalar.extui v448
  let c0_i32_691 : BitVec 32 := 0#32
  let v475 : BitVec 1 := Scalar.cmpi .ne v474 c0_i32_691
  v475

def k0_dev57 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_607 : BitVec 32 := 2#32
  let v448 : BitVec 1 := Scalar.cmpi .sge v19 c2_i32_607
  let c3_i32_28 : BitVec 32 := 3#32
  let v58 : BitVec 1 := Scalar.cmpi .slt v19 c3_i32_28
  let v478 : BitVec 1 := Scalar.andi v448 v58
  let v479 : BitVec 32 := Scalar.extui v478
  let c0_i32_705 : BitVec 32 := 0#32
  let v480 : BitVec 1 := Scalar.cmpi .ne v479 c0_i32_705
  v480

def k0_dev58 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v30 : BitVec 32 := Scalar.addi v2 c4_i32_11
  let c1_i32_2577 : BitVec 32 := 1#32
  let v1157 : BitVec 32 := Scalar.muli v30 c1_i32_2577
  let v1158 : BitVec 32 := Scalar.addi c0_i32_2578 v1157
  v1158.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_607 : BitVec 32 := 2#32
  let v448 : BitVec 1 := Scalar.cmpi .sge v19 c2_i32_607
  let v481 : BitVec 32 := Scalar.extui v448
  let c0_i32_712 : BitVec 32 := 0#32
  let v482 : BitVec 1 := Scalar.cmpi .ne v481 c0_i32_712
  v482

def k0_dev59 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_607 : BitVec 32 := 2#32
  let v448 : BitVec 1 := Scalar.cmpi .sge v19 c2_i32_607
  let v483 : BitVec 32 := Scalar.extui v448
  let c0_i32_719 : BitVec 32 := 0#32
  let v484 : BitVec 1 := Scalar.cmpi .ne v483 c0_i32_719
  v484

def k0_dev60 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_607 : BitVec 32 := 2#32
  let v448 : BitVec 1 := Scalar.cmpi .sge v19 c2_i32_607
  let v485 : BitVec 32 := Scalar.extui v448
  let c0_i32_720 : BitVec 32 := 0#32
  let v486 : BitVec 1 := Scalar.cmpi .ne v485 c0_i32_720
  v486

def k0_off5 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2593 : BitVec 32 := 2#32
  let v1185 : BitVec 32 := Scalar.subi v19 c2_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_2586 : BitVec 32 := 0#32
  let v1174 : BitVec 32 := Scalar.addi v29 c0_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_721 : BitVec 32 := 2#32
  let v487 : BitVec 32 := Scalar.addi v19 c2_i32_721
  let c3_i32_722 : BitVec 32 := 3#32
  let v488 : BitVec 1 := Scalar.cmpi .sle v487 c3_i32_722
  let c0_i32_29 : BitVec 32 := 0#32
  let v59 : BitVec 1 := Scalar.cmpi .sgt v19 c0_i32_29
  let v491 : BitVec 1 := Scalar.andi v488 v59
  let v492 : BitVec 32 := Scalar.extui v491
  let c0_i32_736 : BitVec 32 := 0#32
  let v493 : BitVec 1 := Scalar.cmpi .ne v492 c0_i32_736
  v493

def k0_dev61 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v31 : BitVec 32 := Scalar.subi v2 c4_i32_12
  let c1_i32_2577 : BitVec 32 := 1#32
  let v1157 : BitVec 32 := Scalar.muli v31 c1_i32_2577
  let v1158 : BitVec 32 := Scalar.addi c0_i32_2578 v1157
  v1158.toNat
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_721 : BitVec 32 := 2#32
  let v487 : BitVec 32 := Scalar.addi v19 c2_i32_721
  let c3_i32_722 : BitVec 32 := 3#32
  let v488 : BitVec 1 := Scalar.cmpi .sle v487 c3_i32_722
  let v494 : BitVec 32 := Scalar.extui v488
  let c0_i32_742 : BitVec 32 := 0#32
  let v495 : BitVec 1 := Scalar.cmpi .ne v494 c0_i32_742
  v495

def k0_dev62 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_721 : BitVec 32 := 2#32
  let v487 : BitVec 32 := Scalar.addi v19 c2_i32_721
  let c3_i32_722 : BitVec 32 := 3#32
  let v488 : BitVec 1 := Scalar.cmpi .sle v487 c3_i32_722
  let v496 : BitVec 32 := Scalar.extui v488
  let c0_i32_748 : BitVec 32 := 0#32
  let v497 : BitVec 1 := Scalar.cmpi .ne v496 c0_i32_748
  v497

def k0_dev63 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_721 : BitVec 32 := 2#32
  let v487 : BitVec 32 := Scalar.addi v19 c2_i32_721
  let c3_i32_722 : BitVec 32 := 3#32
  let v488 : BitVec 1 := Scalar.cmpi .sle v487 c3_i32_722
  let c0_i32_29 : BitVec 32 := 0#32
  let v59 : BitVec 1 := Scalar.cmpi .sgt v19 c0_i32_29
  let v500 : BitVec 1 := Scalar.andi v488 v59
  let v501 : BitVec 32 := Scalar.extui v500
  let c0_i32_762 : BitVec 32 := 0#32
  let v502 : BitVec 1 := Scalar.cmpi .ne v501 c0_i32_762
  v502

def k0_dev64 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v31 : BitVec 32 := Scalar.subi v2 c4_i32_12
  let c1_i32_2577 : BitVec 32 := 1#32
  let v1157 : BitVec 32 := Scalar.muli v31 c1_i32_2577
  let v1158 : BitVec 32 := Scalar.addi c0_i32_2578 v1157
  v1158.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_721 : BitVec 32 := 2#32
  let v487 : BitVec 32 := Scalar.addi v19 c2_i32_721
  let c3_i32_722 : BitVec 32 := 3#32
  let v488 : BitVec 1 := Scalar.cmpi .sle v487 c3_i32_722
  let v503 : BitVec 32 := Scalar.extui v488
  let c0_i32_769 : BitVec 32 := 0#32
  let v504 : BitVec 1 := Scalar.cmpi .ne v503 c0_i32_769
  v504

def k0_dev65 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_721 : BitVec 32 := 2#32
  let v487 : BitVec 32 := Scalar.addi v19 c2_i32_721
  let c3_i32_722 : BitVec 32 := 3#32
  let v488 : BitVec 1 := Scalar.cmpi .sle v487 c3_i32_722
  let v505 : BitVec 32 := Scalar.extui v488
  let c0_i32_776 : BitVec 32 := 0#32
  let v506 : BitVec 1 := Scalar.cmpi .ne v505 c0_i32_776
  v506

def k0_dev66 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_721 : BitVec 32 := 2#32
  let v487 : BitVec 32 := Scalar.addi v19 c2_i32_721
  let c3_i32_722 : BitVec 32 := 3#32
  let v488 : BitVec 1 := Scalar.cmpi .sle v487 c3_i32_722
  let c0_i32_29 : BitVec 32 := 0#32
  let v59 : BitVec 1 := Scalar.cmpi .sgt v19 c0_i32_29
  let v509 : BitVec 1 := Scalar.andi v488 v59
  let v510 : BitVec 32 := Scalar.extui v509
  let c0_i32_790 : BitVec 32 := 0#32
  let v511 : BitVec 1 := Scalar.cmpi .ne v510 c0_i32_790
  v511

def k0_dev67 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v31 : BitVec 32 := Scalar.subi v2 c4_i32_12
  let c1_i32_2577 : BitVec 32 := 1#32
  let v1157 : BitVec 32 := Scalar.muli v31 c1_i32_2577
  let v1158 : BitVec 32 := Scalar.addi c0_i32_2578 v1157
  v1158.toNat
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_721 : BitVec 32 := 2#32
  let v487 : BitVec 32 := Scalar.addi v19 c2_i32_721
  let c3_i32_722 : BitVec 32 := 3#32
  let v488 : BitVec 1 := Scalar.cmpi .sle v487 c3_i32_722
  let v512 : BitVec 32 := Scalar.extui v488
  let c0_i32_797 : BitVec 32 := 0#32
  let v513 : BitVec 1 := Scalar.cmpi .ne v512 c0_i32_797
  v513

def k0_dev68 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_721 : BitVec 32 := 2#32
  let v487 : BitVec 32 := Scalar.addi v19 c2_i32_721
  let c3_i32_722 : BitVec 32 := 3#32
  let v488 : BitVec 1 := Scalar.cmpi .sle v487 c3_i32_722
  let v514 : BitVec 32 := Scalar.extui v488
  let c0_i32_804 : BitVec 32 := 0#32
  let v515 : BitVec 1 := Scalar.cmpi .ne v514 c0_i32_804
  v515

def k0_dev69 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_721 : BitVec 32 := 2#32
  let v487 : BitVec 32 := Scalar.addi v19 c2_i32_721
  let c3_i32_722 : BitVec 32 := 3#32
  let v488 : BitVec 1 := Scalar.cmpi .sle v487 c3_i32_722
  let c0_i32_29 : BitVec 32 := 0#32
  let v59 : BitVec 1 := Scalar.cmpi .sgt v19 c0_i32_29
  let v518 : BitVec 1 := Scalar.andi v488 v59
  let v519 : BitVec 32 := Scalar.extui v518
  let c0_i32_818 : BitVec 32 := 0#32
  let v520 : BitVec 1 := Scalar.cmpi .ne v519 c0_i32_818
  v520

def k0_dev70 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v31 : BitVec 32 := Scalar.subi v2 c4_i32_12
  let c1_i32_2577 : BitVec 32 := 1#32
  let v1157 : BitVec 32 := Scalar.muli v31 c1_i32_2577
  let v1158 : BitVec 32 := Scalar.addi c0_i32_2578 v1157
  v1158.toNat
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_721 : BitVec 32 := 2#32
  let v487 : BitVec 32 := Scalar.addi v19 c2_i32_721
  let c3_i32_722 : BitVec 32 := 3#32
  let v488 : BitVec 1 := Scalar.cmpi .sle v487 c3_i32_722
  let v521 : BitVec 32 := Scalar.extui v488
  let c0_i32_825 : BitVec 32 := 0#32
  let v522 : BitVec 1 := Scalar.cmpi .ne v521 c0_i32_825
  v522

def k0_dev71 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_721 : BitVec 32 := 2#32
  let v487 : BitVec 32 := Scalar.addi v19 c2_i32_721
  let c3_i32_722 : BitVec 32 := 3#32
  let v488 : BitVec 1 := Scalar.cmpi .sle v487 c3_i32_722
  let v523 : BitVec 32 := Scalar.extui v488
  let c0_i32_832 : BitVec 32 := 0#32
  let v524 : BitVec 1 := Scalar.cmpi .ne v523 c0_i32_832
  v524

def k0_dev72 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_721 : BitVec 32 := 2#32
  let v487 : BitVec 32 := Scalar.addi v19 c2_i32_721
  let c3_i32_722 : BitVec 32 := 3#32
  let v488 : BitVec 1 := Scalar.cmpi .sle v487 c3_i32_722
  let v525 : BitVec 32 := Scalar.extui v488
  let c0_i32_833 : BitVec 32 := 0#32
  let v526 : BitVec 1 := Scalar.cmpi .ne v525 c0_i32_833
  v526

def k0_off6 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2593 : BitVec 32 := 2#32
  let v1185 : BitVec 32 := Scalar.addi v19 c2_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_2586 : BitVec 32 := 0#32
  let v1174 : BitVec 32 := Scalar.addi v29 c0_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_834 : BitVec 32 := 1#32
  let v527 : BitVec 1 := Scalar.cmpi .sge v19 c1_i32_834
  let v530 : BitVec 32 := Scalar.extui v527
  let c0_i32_847 : BitVec 32 := 0#32
  let v531 : BitVec 1 := Scalar.cmpi .ne v530 c0_i32_847
  v531

def k0_dev73 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_834 : BitVec 32 := 1#32
  let v527 : BitVec 1 := Scalar.cmpi .sge v19 c1_i32_834
  let v534 : BitVec 32 := Scalar.extui v527
  let c0_i32_861 : BitVec 32 := 0#32
  let v535 : BitVec 1 := Scalar.cmpi .ne v534 c0_i32_861
  v535

def k0_dev74 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_834 : BitVec 32 := 1#32
  let v527 : BitVec 1 := Scalar.cmpi .sge v19 c1_i32_834
  let v538 : BitVec 32 := Scalar.extui v527
  let c0_i32_875 : BitVec 32 := 0#32
  let v539 : BitVec 1 := Scalar.cmpi .ne v538 c0_i32_875
  v539

def k0_dev75 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_834 : BitVec 32 := 1#32
  let v527 : BitVec 1 := Scalar.cmpi .sge v19 c1_i32_834
  let v542 : BitVec 32 := Scalar.extui v527
  let c0_i32_889 : BitVec 32 := 0#32
  let v543 : BitVec 1 := Scalar.cmpi .ne v542 c0_i32_889
  v543

def k0_dev76 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_834 : BitVec 32 := 1#32
  let v527 : BitVec 1 := Scalar.cmpi .sge v19 c1_i32_834
  let v552 : BitVec 32 := Scalar.extui v527
  let c0_i32_918 : BitVec 32 := 0#32
  let v553 : BitVec 1 := Scalar.cmpi .ne v552 c0_i32_918
  v553

def k0_off7 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2593 : BitVec 32 := 1#32
  let v1185 : BitVec 32 := Scalar.subi v19 c1_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_2586 : BitVec 32 := 3#32
  let v1174 : BitVec 32 := Scalar.addi v29 c3_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_834 : BitVec 32 := 1#32
  let v527 : BitVec 1 := Scalar.cmpi .sge v19 c1_i32_834
  let v554 : BitVec 32 := Scalar.extui v527
  let c0_i32_919 : BitVec 32 := 0#32
  let v555 : BitVec 1 := Scalar.cmpi .ne v554 c0_i32_919
  v555

def k0_off8 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2593 : BitVec 32 := 1#32
  let v1185 : BitVec 32 := Scalar.subi v19 c1_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2586 : BitVec 32 := 1#32
  let v1174 : BitVec 32 := Scalar.addi v29 c1_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_920 : BitVec 32 := 1#32
  let v556 : BitVec 32 := Scalar.addi v19 c1_i32_920
  let c3_i32_921 : BitVec 32 := 3#32
  let v557 : BitVec 1 := Scalar.cmpi .sle v556 c3_i32_921
  let v560 : BitVec 32 := Scalar.extui v557
  let c0_i32_934 : BitVec 32 := 0#32
  let v561 : BitVec 1 := Scalar.cmpi .ne v560 c0_i32_934
  v561

def k0_dev77 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond98 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_920 : BitVec 32 := 1#32
  let v556 : BitVec 32 := Scalar.addi v19 c1_i32_920
  let c3_i32_921 : BitVec 32 := 3#32
  let v557 : BitVec 1 := Scalar.cmpi .sle v556 c3_i32_921
  let v564 : BitVec 32 := Scalar.extui v557
  let c0_i32_948 : BitVec 32 := 0#32
  let v565 : BitVec 1 := Scalar.cmpi .ne v564 c0_i32_948
  v565

def k0_dev78 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond100 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_920 : BitVec 32 := 1#32
  let v556 : BitVec 32 := Scalar.addi v19 c1_i32_920
  let c3_i32_921 : BitVec 32 := 3#32
  let v557 : BitVec 1 := Scalar.cmpi .sle v556 c3_i32_921
  let v568 : BitVec 32 := Scalar.extui v557
  let c0_i32_962 : BitVec 32 := 0#32
  let v569 : BitVec 1 := Scalar.cmpi .ne v568 c0_i32_962
  v569

def k0_dev79 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_920 : BitVec 32 := 1#32
  let v556 : BitVec 32 := Scalar.addi v19 c1_i32_920
  let c3_i32_921 : BitVec 32 := 3#32
  let v557 : BitVec 1 := Scalar.cmpi .sle v556 c3_i32_921
  let v572 : BitVec 32 := Scalar.extui v557
  let c0_i32_976 : BitVec 32 := 0#32
  let v573 : BitVec 1 := Scalar.cmpi .ne v572 c0_i32_976
  v573

def k0_dev80 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_920 : BitVec 32 := 1#32
  let v556 : BitVec 32 := Scalar.addi v19 c1_i32_920
  let c3_i32_921 : BitVec 32 := 3#32
  let v557 : BitVec 1 := Scalar.cmpi .sle v556 c3_i32_921
  let v582 : BitVec 32 := Scalar.extui v557
  let c0_i32_1005 : BitVec 32 := 0#32
  let v583 : BitVec 1 := Scalar.cmpi .ne v582 c0_i32_1005
  v583

def k0_off9 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2593 : BitVec 32 := 1#32
  let v1185 : BitVec 32 := Scalar.addi v19 c1_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_2586 : BitVec 32 := 3#32
  let v1174 : BitVec 32 := Scalar.addi v29 c3_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond108 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_920 : BitVec 32 := 1#32
  let v556 : BitVec 32 := Scalar.addi v19 c1_i32_920
  let c3_i32_921 : BitVec 32 := 3#32
  let v557 : BitVec 1 := Scalar.cmpi .sle v556 c3_i32_921
  let v584 : BitVec 32 := Scalar.extui v557
  let c0_i32_1006 : BitVec 32 := 0#32
  let v585 : BitVec 1 := Scalar.cmpi .ne v584 c0_i32_1006
  v585

def k0_off10 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2593 : BitVec 32 := 1#32
  let v1185 : BitVec 32 := Scalar.addi v19 c1_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2586 : BitVec 32 := 1#32
  let v1174 : BitVec 32 := Scalar.addi v29 c1_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1007 : BitVec 32 := 3#32
  let v586 : BitVec 1 := Scalar.cmpi .sge v19 c3_i32_1007
  let v589 : BitVec 32 := Scalar.extui v586
  let c0_i32_1021 : BitVec 32 := 0#32
  let v590 : BitVec 1 := Scalar.cmpi .ne v589 c0_i32_1021
  v590

def k0_dev81 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1007 : BitVec 32 := 3#32
  let v586 : BitVec 1 := Scalar.cmpi .sge v19 c3_i32_1007
  let v591 : BitVec 32 := Scalar.extui v586
  let c0_i32_1027 : BitVec 32 := 0#32
  let v592 : BitVec 1 := Scalar.cmpi .ne v591 c0_i32_1027
  v592

def k0_dev82 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond113 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1007 : BitVec 32 := 3#32
  let v586 : BitVec 1 := Scalar.cmpi .sge v19 c3_i32_1007
  let v595 : BitVec 32 := Scalar.extui v586
  let c0_i32_1041 : BitVec 32 := 0#32
  let v596 : BitVec 1 := Scalar.cmpi .ne v595 c0_i32_1041
  v596

def k0_dev83 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond114 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1007 : BitVec 32 := 3#32
  let v586 : BitVec 1 := Scalar.cmpi .sge v19 c3_i32_1007
  let v597 : BitVec 32 := Scalar.extui v586
  let c0_i32_1048 : BitVec 32 := 0#32
  let v598 : BitVec 1 := Scalar.cmpi .ne v597 c0_i32_1048
  v598

def k0_dev84 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond116 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1007 : BitVec 32 := 3#32
  let v586 : BitVec 1 := Scalar.cmpi .sge v19 c3_i32_1007
  let v601 : BitVec 32 := Scalar.extui v586
  let c0_i32_1062 : BitVec 32 := 0#32
  let v602 : BitVec 1 := Scalar.cmpi .ne v601 c0_i32_1062
  v602

def k0_dev85 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond117 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1007 : BitVec 32 := 3#32
  let v586 : BitVec 1 := Scalar.cmpi .sge v19 c3_i32_1007
  let v603 : BitVec 32 := Scalar.extui v586
  let c0_i32_1069 : BitVec 32 := 0#32
  let v604 : BitVec 1 := Scalar.cmpi .ne v603 c0_i32_1069
  v604

def k0_dev86 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond119 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1007 : BitVec 32 := 3#32
  let v586 : BitVec 1 := Scalar.cmpi .sge v19 c3_i32_1007
  let v607 : BitVec 32 := Scalar.extui v586
  let c0_i32_1083 : BitVec 32 := 0#32
  let v608 : BitVec 1 := Scalar.cmpi .ne v607 c0_i32_1083
  v608

def k0_dev87 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond120 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1007 : BitVec 32 := 3#32
  let v586 : BitVec 1 := Scalar.cmpi .sge v19 c3_i32_1007
  let v609 : BitVec 32 := Scalar.extui v586
  let c0_i32_1090 : BitVec 32 := 0#32
  let v610 : BitVec 1 := Scalar.cmpi .ne v609 c0_i32_1090
  v610

def k0_dev88 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond121 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1007 : BitVec 32 := 3#32
  let v586 : BitVec 1 := Scalar.cmpi .sge v19 c3_i32_1007
  let v611 : BitVec 32 := Scalar.extui v586
  let c0_i32_1091 : BitVec 32 := 0#32
  let v612 : BitVec 1 := Scalar.cmpi .ne v611 c0_i32_1091
  v612

def k0_off11 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2593 : BitVec 32 := 3#32
  let v1185 : BitVec 32 := Scalar.subi v19 c3_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_2586 : BitVec 32 := 0#32
  let v1174 : BitVec 32 := Scalar.addi v29 c0_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond123 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1092 : BitVec 32 := 3#32
  let v613 : BitVec 32 := Scalar.addi v19 c3_i32_1092
  let c3_i32_1093 : BitVec 32 := 3#32
  let v614 : BitVec 1 := Scalar.cmpi .sle v613 c3_i32_1093
  let v617 : BitVec 32 := Scalar.extui v614
  let c0_i32_1106 : BitVec 32 := 0#32
  let v618 : BitVec 1 := Scalar.cmpi .ne v617 c0_i32_1106
  v618

def k0_dev89 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond124 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1092 : BitVec 32 := 3#32
  let v613 : BitVec 32 := Scalar.addi v19 c3_i32_1092
  let c3_i32_1093 : BitVec 32 := 3#32
  let v614 : BitVec 1 := Scalar.cmpi .sle v613 c3_i32_1093
  let v619 : BitVec 32 := Scalar.extui v614
  let c0_i32_1112 : BitVec 32 := 0#32
  let v620 : BitVec 1 := Scalar.cmpi .ne v619 c0_i32_1112
  v620

def k0_dev90 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond126 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1092 : BitVec 32 := 3#32
  let v613 : BitVec 32 := Scalar.addi v19 c3_i32_1092
  let c3_i32_1093 : BitVec 32 := 3#32
  let v614 : BitVec 1 := Scalar.cmpi .sle v613 c3_i32_1093
  let v623 : BitVec 32 := Scalar.extui v614
  let c0_i32_1126 : BitVec 32 := 0#32
  let v624 : BitVec 1 := Scalar.cmpi .ne v623 c0_i32_1126
  v624

def k0_dev91 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond127 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1092 : BitVec 32 := 3#32
  let v613 : BitVec 32 := Scalar.addi v19 c3_i32_1092
  let c3_i32_1093 : BitVec 32 := 3#32
  let v614 : BitVec 1 := Scalar.cmpi .sle v613 c3_i32_1093
  let v625 : BitVec 32 := Scalar.extui v614
  let c0_i32_1133 : BitVec 32 := 0#32
  let v626 : BitVec 1 := Scalar.cmpi .ne v625 c0_i32_1133
  v626

def k0_dev92 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond129 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1092 : BitVec 32 := 3#32
  let v613 : BitVec 32 := Scalar.addi v19 c3_i32_1092
  let c3_i32_1093 : BitVec 32 := 3#32
  let v614 : BitVec 1 := Scalar.cmpi .sle v613 c3_i32_1093
  let v629 : BitVec 32 := Scalar.extui v614
  let c0_i32_1147 : BitVec 32 := 0#32
  let v630 : BitVec 1 := Scalar.cmpi .ne v629 c0_i32_1147
  v630

def k0_dev93 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond130 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1092 : BitVec 32 := 3#32
  let v613 : BitVec 32 := Scalar.addi v19 c3_i32_1092
  let c3_i32_1093 : BitVec 32 := 3#32
  let v614 : BitVec 1 := Scalar.cmpi .sle v613 c3_i32_1093
  let v631 : BitVec 32 := Scalar.extui v614
  let c0_i32_1154 : BitVec 32 := 0#32
  let v632 : BitVec 1 := Scalar.cmpi .ne v631 c0_i32_1154
  v632

def k0_dev94 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond132 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1092 : BitVec 32 := 3#32
  let v613 : BitVec 32 := Scalar.addi v19 c3_i32_1092
  let c3_i32_1093 : BitVec 32 := 3#32
  let v614 : BitVec 1 := Scalar.cmpi .sle v613 c3_i32_1093
  let v635 : BitVec 32 := Scalar.extui v614
  let c0_i32_1168 : BitVec 32 := 0#32
  let v636 : BitVec 1 := Scalar.cmpi .ne v635 c0_i32_1168
  v636

def k0_dev95 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond133 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1092 : BitVec 32 := 3#32
  let v613 : BitVec 32 := Scalar.addi v19 c3_i32_1092
  let c3_i32_1093 : BitVec 32 := 3#32
  let v614 : BitVec 1 := Scalar.cmpi .sle v613 c3_i32_1093
  let v637 : BitVec 32 := Scalar.extui v614
  let c0_i32_1175 : BitVec 32 := 0#32
  let v638 : BitVec 1 := Scalar.cmpi .ne v637 c0_i32_1175
  v638

def k0_dev96 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond134 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1092 : BitVec 32 := 3#32
  let v613 : BitVec 32 := Scalar.addi v19 c3_i32_1092
  let c3_i32_1093 : BitVec 32 := 3#32
  let v614 : BitVec 1 := Scalar.cmpi .sle v613 c3_i32_1093
  let v639 : BitVec 32 := Scalar.extui v614
  let c0_i32_1176 : BitVec 32 := 0#32
  let v640 : BitVec 1 := Scalar.cmpi .ne v639 c0_i32_1176
  v640

def k0_off12 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2593 : BitVec 32 := 3#32
  let v1185 : BitVec 32 := Scalar.addi v19 c3_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_2586 : BitVec 32 := 0#32
  let v1174 : BitVec 32 := Scalar.addi v29 c0_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond136 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1177 : BitVec 32 := 2#32
  let v641 : BitVec 1 := Scalar.cmpi .sge v19 c2_i32_1177
  let v644 : BitVec 32 := Scalar.extui v641
  let c0_i32_1190 : BitVec 32 := 0#32
  let v645 : BitVec 1 := Scalar.cmpi .ne v644 c0_i32_1190
  v645

def k0_dev97 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond138 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1177 : BitVec 32 := 2#32
  let v641 : BitVec 1 := Scalar.cmpi .sge v19 c2_i32_1177
  let v648 : BitVec 32 := Scalar.extui v641
  let c0_i32_1204 : BitVec 32 := 0#32
  let v649 : BitVec 1 := Scalar.cmpi .ne v648 c0_i32_1204
  v649

def k0_dev98 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond140 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1177 : BitVec 32 := 2#32
  let v641 : BitVec 1 := Scalar.cmpi .sge v19 c2_i32_1177
  let v652 : BitVec 32 := Scalar.extui v641
  let c0_i32_1218 : BitVec 32 := 0#32
  let v653 : BitVec 1 := Scalar.cmpi .ne v652 c0_i32_1218
  v653

def k0_dev99 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond142 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1177 : BitVec 32 := 2#32
  let v641 : BitVec 1 := Scalar.cmpi .sge v19 c2_i32_1177
  let v656 : BitVec 32 := Scalar.extui v641
  let c0_i32_1232 : BitVec 32 := 0#32
  let v657 : BitVec 1 := Scalar.cmpi .ne v656 c0_i32_1232
  v657

def k0_dev100 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond147 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1177 : BitVec 32 := 2#32
  let v641 : BitVec 1 := Scalar.cmpi .sge v19 c2_i32_1177
  let v666 : BitVec 32 := Scalar.extui v641
  let c0_i32_1261 : BitVec 32 := 0#32
  let v667 : BitVec 1 := Scalar.cmpi .ne v666 c0_i32_1261
  v667

def k0_off13 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2593 : BitVec 32 := 2#32
  let v1185 : BitVec 32 := Scalar.subi v19 c2_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_2586 : BitVec 32 := 3#32
  let v1174 : BitVec 32 := Scalar.addi v29 c3_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond148 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1177 : BitVec 32 := 2#32
  let v641 : BitVec 1 := Scalar.cmpi .sge v19 c2_i32_1177
  let v668 : BitVec 32 := Scalar.extui v641
  let c0_i32_1262 : BitVec 32 := 0#32
  let v669 : BitVec 1 := Scalar.cmpi .ne v668 c0_i32_1262
  v669

def k0_off14 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2593 : BitVec 32 := 2#32
  let v1185 : BitVec 32 := Scalar.subi v19 c2_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2586 : BitVec 32 := 1#32
  let v1174 : BitVec 32 := Scalar.addi v29 c1_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond150 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1263 : BitVec 32 := 2#32
  let v670 : BitVec 32 := Scalar.addi v19 c2_i32_1263
  let c3_i32_1264 : BitVec 32 := 3#32
  let v671 : BitVec 1 := Scalar.cmpi .sle v670 c3_i32_1264
  let v674 : BitVec 32 := Scalar.extui v671
  let c0_i32_1277 : BitVec 32 := 0#32
  let v675 : BitVec 1 := Scalar.cmpi .ne v674 c0_i32_1277
  v675

def k0_dev101 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond152 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1263 : BitVec 32 := 2#32
  let v670 : BitVec 32 := Scalar.addi v19 c2_i32_1263
  let c3_i32_1264 : BitVec 32 := 3#32
  let v671 : BitVec 1 := Scalar.cmpi .sle v670 c3_i32_1264
  let v678 : BitVec 32 := Scalar.extui v671
  let c0_i32_1291 : BitVec 32 := 0#32
  let v679 : BitVec 1 := Scalar.cmpi .ne v678 c0_i32_1291
  v679

def k0_dev102 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond154 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1263 : BitVec 32 := 2#32
  let v670 : BitVec 32 := Scalar.addi v19 c2_i32_1263
  let c3_i32_1264 : BitVec 32 := 3#32
  let v671 : BitVec 1 := Scalar.cmpi .sle v670 c3_i32_1264
  let v682 : BitVec 32 := Scalar.extui v671
  let c0_i32_1305 : BitVec 32 := 0#32
  let v683 : BitVec 1 := Scalar.cmpi .ne v682 c0_i32_1305
  v683

def k0_dev103 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond156 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1263 : BitVec 32 := 2#32
  let v670 : BitVec 32 := Scalar.addi v19 c2_i32_1263
  let c3_i32_1264 : BitVec 32 := 3#32
  let v671 : BitVec 1 := Scalar.cmpi .sle v670 c3_i32_1264
  let v686 : BitVec 32 := Scalar.extui v671
  let c0_i32_1319 : BitVec 32 := 0#32
  let v687 : BitVec 1 := Scalar.cmpi .ne v686 c0_i32_1319
  v687

def k0_dev104 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond161 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1263 : BitVec 32 := 2#32
  let v670 : BitVec 32 := Scalar.addi v19 c2_i32_1263
  let c3_i32_1264 : BitVec 32 := 3#32
  let v671 : BitVec 1 := Scalar.cmpi .sle v670 c3_i32_1264
  let v696 : BitVec 32 := Scalar.extui v671
  let c0_i32_1348 : BitVec 32 := 0#32
  let v697 : BitVec 1 := Scalar.cmpi .ne v696 c0_i32_1348
  v697

def k0_off15 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2593 : BitVec 32 := 2#32
  let v1185 : BitVec 32 := Scalar.addi v19 c2_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_2586 : BitVec 32 := 3#32
  let v1174 : BitVec 32 := Scalar.addi v29 c3_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond162 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1263 : BitVec 32 := 2#32
  let v670 : BitVec 32 := Scalar.addi v19 c2_i32_1263
  let c3_i32_1264 : BitVec 32 := 3#32
  let v671 : BitVec 1 := Scalar.cmpi .sle v670 c3_i32_1264
  let v698 : BitVec 32 := Scalar.extui v671
  let c0_i32_1349 : BitVec 32 := 0#32
  let v699 : BitVec 1 := Scalar.cmpi .ne v698 c0_i32_1349
  v699

def k0_off16 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2593 : BitVec 32 := 2#32
  let v1185 : BitVec 32 := Scalar.addi v19 c2_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2586 : BitVec 32 := 1#32
  let v1174 : BitVec 32 := Scalar.addi v29 c1_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond164 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1417 : BitVec 32 := 3#32
  let v765 : BitVec 1 := Scalar.cmpi .sge v19 c3_i32_1417
  let v768 : BitVec 32 := Scalar.extui v765
  let c0_i32_1430 : BitVec 32 := 0#32
  let v769 : BitVec 1 := Scalar.cmpi .ne v768 c0_i32_1430
  v769

def k0_dev105 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond166 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1417 : BitVec 32 := 3#32
  let v765 : BitVec 1 := Scalar.cmpi .sge v19 c3_i32_1417
  let v772 : BitVec 32 := Scalar.extui v765
  let c0_i32_1444 : BitVec 32 := 0#32
  let v773 : BitVec 1 := Scalar.cmpi .ne v772 c0_i32_1444
  v773

def k0_dev106 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond168 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1417 : BitVec 32 := 3#32
  let v765 : BitVec 1 := Scalar.cmpi .sge v19 c3_i32_1417
  let v776 : BitVec 32 := Scalar.extui v765
  let c0_i32_1458 : BitVec 32 := 0#32
  let v777 : BitVec 1 := Scalar.cmpi .ne v776 c0_i32_1458
  v777

def k0_dev107 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond170 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1417 : BitVec 32 := 3#32
  let v765 : BitVec 1 := Scalar.cmpi .sge v19 c3_i32_1417
  let v780 : BitVec 32 := Scalar.extui v765
  let c0_i32_1472 : BitVec 32 := 0#32
  let v781 : BitVec 1 := Scalar.cmpi .ne v780 c0_i32_1472
  v781

def k0_dev108 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond175 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1417 : BitVec 32 := 3#32
  let v765 : BitVec 1 := Scalar.cmpi .sge v19 c3_i32_1417
  let v790 : BitVec 32 := Scalar.extui v765
  let c0_i32_1501 : BitVec 32 := 0#32
  let v791 : BitVec 1 := Scalar.cmpi .ne v790 c0_i32_1501
  v791

def k0_off17 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2593 : BitVec 32 := 3#32
  let v1185 : BitVec 32 := Scalar.subi v19 c3_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_2586 : BitVec 32 := 3#32
  let v1174 : BitVec 32 := Scalar.addi v29 c3_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond176 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1417 : BitVec 32 := 3#32
  let v765 : BitVec 1 := Scalar.cmpi .sge v19 c3_i32_1417
  let v792 : BitVec 32 := Scalar.extui v765
  let c0_i32_1502 : BitVec 32 := 0#32
  let v793 : BitVec 1 := Scalar.cmpi .ne v792 c0_i32_1502
  v793

def k0_off18 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2593 : BitVec 32 := 3#32
  let v1185 : BitVec 32 := Scalar.subi v19 c3_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2586 : BitVec 32 := 1#32
  let v1174 : BitVec 32 := Scalar.addi v29 c1_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond178 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1503 : BitVec 32 := 3#32
  let v794 : BitVec 32 := Scalar.addi v19 c3_i32_1503
  let c3_i32_1504 : BitVec 32 := 3#32
  let v795 : BitVec 1 := Scalar.cmpi .sle v794 c3_i32_1504
  let v798 : BitVec 32 := Scalar.extui v795
  let c0_i32_1517 : BitVec 32 := 0#32
  let v799 : BitVec 1 := Scalar.cmpi .ne v798 c0_i32_1517
  v799

def k0_dev109 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond180 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1503 : BitVec 32 := 3#32
  let v794 : BitVec 32 := Scalar.addi v19 c3_i32_1503
  let c3_i32_1504 : BitVec 32 := 3#32
  let v795 : BitVec 1 := Scalar.cmpi .sle v794 c3_i32_1504
  let v802 : BitVec 32 := Scalar.extui v795
  let c0_i32_1531 : BitVec 32 := 0#32
  let v803 : BitVec 1 := Scalar.cmpi .ne v802 c0_i32_1531
  v803

def k0_dev110 (d0 : Dev nD) : Nat :=
  let c0_i32_2578 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_13 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_14 : BitVec 32 := 1#32
  let v33 : BitVec 32 := Scalar.addi v29 c1_i32_14
  let c4_i32_15 : BitVec 32 := 4#32
  let c0_i32_16 : BitVec 32 := 0#32
  let v34 : BitVec 1 := Scalar.cmpi .eq c4_i32_15 c0_i32_16
  let c1_i32_17 : BitVec 32 := 1#32
  let v35 : BitVec 32 := Scalar.select v34 c1_i32_17 c4_i32_15
  let v36 : BitVec 32 := Scalar.remsi v33 v35
  let c0_i32_19 : BitVec 32 := 0#32
  let v38 : BitVec 1 := Scalar.cmpi .slt v36 c0_i32_19
  let c0_i32_20 : BitVec 32 := 0#32
  let v39 : BitVec 1 := Scalar.cmpi .slt v35 c0_i32_20
  let v40 : BitVec 1 := Scalar.xori v38 v39
  let c0_i32_18 : BitVec 32 := 0#32
  let v37 : BitVec 1 := Scalar.cmpi .ne v36 c0_i32_18
  let v41 : BitVec 1 := Scalar.andi v40 v37
  let v42 : BitVec 32 := Scalar.addi v36 v35
  let v43 : BitVec 32 := Scalar.select v41 v42 v36
  let v44 : BitVec 32 := Scalar.addi v32 v43
  let c1_i32_2577 : BitVec 32 := 1#32
  let v1157 : BitVec 32 := Scalar.muli v44 c1_i32_2577
  let v1158 : BitVec 32 := Scalar.addi c0_i32_2578 v1157
  v1158.toNat
def k0_cond182 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1503 : BitVec 32 := 3#32
  let v794 : BitVec 32 := Scalar.addi v19 c3_i32_1503
  let c3_i32_1504 : BitVec 32 := 3#32
  let v795 : BitVec 1 := Scalar.cmpi .sle v794 c3_i32_1504
  let v806 : BitVec 32 := Scalar.extui v795
  let c0_i32_1545 : BitVec 32 := 0#32
  let v807 : BitVec 1 := Scalar.cmpi .ne v806 c0_i32_1545
  v807

def k0_dev111 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond184 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1503 : BitVec 32 := 3#32
  let v794 : BitVec 32 := Scalar.addi v19 c3_i32_1503
  let c3_i32_1504 : BitVec 32 := 3#32
  let v795 : BitVec 1 := Scalar.cmpi .sle v794 c3_i32_1504
  let v810 : BitVec 32 := Scalar.extui v795
  let c0_i32_1559 : BitVec 32 := 0#32
  let v811 : BitVec 1 := Scalar.cmpi .ne v810 c0_i32_1559
  v811

def k0_dev112 (d0 : Dev nD) : Nat :=
  let c0_i32_2578 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v45 : BitVec 32 := Scalar.muli c4_i32_21 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v46 : BitVec 32 := Scalar.addi v29 c3_i32
  let c4_i32_22 : BitVec 32 := 4#32
  let c0_i32_23 : BitVec 32 := 0#32
  let v47 : BitVec 1 := Scalar.cmpi .eq c4_i32_22 c0_i32_23
  let c1_i32_24 : BitVec 32 := 1#32
  let v48 : BitVec 32 := Scalar.select v47 c1_i32_24 c4_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v45 v56
  let c1_i32_2577 : BitVec 32 := 1#32
  let v1157 : BitVec 32 := Scalar.muli v57 c1_i32_2577
  let v1158 : BitVec 32 := Scalar.addi c0_i32_2578 v1157
  v1158.toNat
def k0_cond189 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1503 : BitVec 32 := 3#32
  let v794 : BitVec 32 := Scalar.addi v19 c3_i32_1503
  let c3_i32_1504 : BitVec 32 := 3#32
  let v795 : BitVec 1 := Scalar.cmpi .sle v794 c3_i32_1504
  let v820 : BitVec 32 := Scalar.extui v795
  let c0_i32_1588 : BitVec 32 := 0#32
  let v821 : BitVec 1 := Scalar.cmpi .ne v820 c0_i32_1588
  v821

def k0_off19 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2593 : BitVec 32 := 3#32
  let v1185 : BitVec 32 := Scalar.addi v19 c3_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_2586 : BitVec 32 := 3#32
  let v1174 : BitVec 32 := Scalar.addi v29 c3_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond190 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1503 : BitVec 32 := 3#32
  let v794 : BitVec 32 := Scalar.addi v19 c3_i32_1503
  let c3_i32_1504 : BitVec 32 := 3#32
  let v795 : BitVec 1 := Scalar.cmpi .sle v794 c3_i32_1504
  let v822 : BitVec 32 := Scalar.extui v795
  let c0_i32_1589 : BitVec 32 := 0#32
  let v823 : BitVec 1 := Scalar.cmpi .ne v822 c0_i32_1589
  v823

def k0_off20 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2593 : BitVec 32 := 3#32
  let v1185 : BitVec 32 := Scalar.addi v19 c3_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2586 : BitVec 32 := 1#32
  let v1174 : BitVec 32 := Scalar.addi v29 c1_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond195 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1590 : BitVec 32 := 1#32
  let v824 : BitVec 1 := Scalar.cmpi .sge v19 c1_i32_1590
  let v833 : BitVec 32 := Scalar.extui v824
  let c0_i32_1619 : BitVec 32 := 0#32
  let v834 : BitVec 1 := Scalar.cmpi .ne v833 c0_i32_1619
  v834

def k0_off21 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2593 : BitVec 32 := 1#32
  let v1185 : BitVec 32 := Scalar.subi v19 c1_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_2586 : BitVec 32 := 2#32
  let v1174 : BitVec 32 := Scalar.addi v29 c2_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond200 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1620 : BitVec 32 := 1#32
  let v835 : BitVec 32 := Scalar.addi v19 c1_i32_1620
  let c3_i32_1621 : BitVec 32 := 3#32
  let v836 : BitVec 1 := Scalar.cmpi .sle v835 c3_i32_1621
  let v845 : BitVec 32 := Scalar.extui v836
  let c0_i32_1650 : BitVec 32 := 0#32
  let v846 : BitVec 1 := Scalar.cmpi .ne v845 c0_i32_1650
  v846

def k0_off22 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2593 : BitVec 32 := 1#32
  let v1185 : BitVec 32 := Scalar.addi v19 c1_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_2586 : BitVec 32 := 2#32
  let v1174 : BitVec 32 := Scalar.addi v29 c2_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond205 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1651 : BitVec 32 := 2#32
  let v847 : BitVec 1 := Scalar.cmpi .sge v19 c2_i32_1651
  let v856 : BitVec 32 := Scalar.extui v847
  let c0_i32_1680 : BitVec 32 := 0#32
  let v857 : BitVec 1 := Scalar.cmpi .ne v856 c0_i32_1680
  v857

def k0_off23 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2593 : BitVec 32 := 2#32
  let v1185 : BitVec 32 := Scalar.subi v19 c2_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_2586 : BitVec 32 := 2#32
  let v1174 : BitVec 32 := Scalar.addi v29 c2_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond210 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1681 : BitVec 32 := 2#32
  let v858 : BitVec 32 := Scalar.addi v19 c2_i32_1681
  let c3_i32_1682 : BitVec 32 := 3#32
  let v859 : BitVec 1 := Scalar.cmpi .sle v858 c3_i32_1682
  let v868 : BitVec 32 := Scalar.extui v859
  let c0_i32_1711 : BitVec 32 := 0#32
  let v869 : BitVec 1 := Scalar.cmpi .ne v868 c0_i32_1711
  v869

def k0_off24 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2593 : BitVec 32 := 2#32
  let v1185 : BitVec 32 := Scalar.addi v19 c2_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_2586 : BitVec 32 := 2#32
  let v1174 : BitVec 32 := Scalar.addi v29 c2_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond215 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1712 : BitVec 32 := 3#32
  let v870 : BitVec 1 := Scalar.cmpi .sge v19 c3_i32_1712
  let v879 : BitVec 32 := Scalar.extui v870
  let c0_i32_1741 : BitVec 32 := 0#32
  let v880 : BitVec 1 := Scalar.cmpi .ne v879 c0_i32_1741
  v880

def k0_off25 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2593 : BitVec 32 := 3#32
  let v1185 : BitVec 32 := Scalar.subi v19 c3_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_2586 : BitVec 32 := 2#32
  let v1174 : BitVec 32 := Scalar.addi v29 c2_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
def k0_cond220 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1742 : BitVec 32 := 3#32
  let v881 : BitVec 32 := Scalar.addi v19 c3_i32_1742
  let c3_i32_1743 : BitVec 32 := 3#32
  let v882 : BitVec 1 := Scalar.cmpi .sle v881 c3_i32_1743
  let v891 : BitVec 32 := Scalar.extui v882
  let c0_i32_1772 : BitVec 32 := 0#32
  let v892 : BitVec 1 := Scalar.cmpi .ne v891 c0_i32_1772
  v892

def k0_off26 (d0 : Dev nD) : Fin 2 → Nat :=
  let c4_i32_2594 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2593 : BitVec 32 := 3#32
  let v1185 : BitVec 32 := Scalar.addi v19 c3_i32_2593
  let v1186 : BitVec 32 := Scalar.muli c4_i32_2594 v1185
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_2586 : BitVec 32 := 2#32
  let v1174 : BitVec 32 := Scalar.addi v29 c2_i32_2586
  let c4_i32_2587 : BitVec 32 := 4#32
  let c0_i32_2588 : BitVec 32 := 0#32
  let v1175 : BitVec 1 := Scalar.cmpi .eq c4_i32_2587 c0_i32_2588
  let c1_i32_2589 : BitVec 32 := 1#32
  let v1176 : BitVec 32 := Scalar.select v1175 c1_i32_2589 c4_i32_2587
  let v1177 : BitVec 32 := Scalar.remsi v1174 v1176
  let c0_i32_2591 : BitVec 32 := 0#32
  let v1179 : BitVec 1 := Scalar.cmpi .slt v1177 c0_i32_2591
  let c0_i32_2592 : BitVec 32 := 0#32
  let v1180 : BitVec 1 := Scalar.cmpi .slt v1176 c0_i32_2592
  let v1181 : BitVec 1 := Scalar.xori v1179 v1180
  let c0_i32_2590 : BitVec 32 := 0#32
  let v1178 : BitVec 1 := Scalar.cmpi .ne v1177 c0_i32_2590
  let v1182 : BitVec 1 := Scalar.andi v1181 v1178
  let v1183 : BitVec 32 := Scalar.addi v1177 v1176
  let v1184 : BitVec 32 := Scalar.select v1182 v1183 v1177
  let v1187 : BitVec 32 := Scalar.addi v1186 v1184
  let c128_i32_2595 : BitVec 32 := 128#32
  let v1188 : BitVec 32 := Scalar.muli v1187 c128_i32_2595
  let v1189 : Index := Scalar.indexCast v1188
  let c0_2596 : Index := 0#32
  ![v1189.toNat, 0]
abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Sched.lean ====
/- The tables of the kernel: which block of rows each slot of the gather buffer receives, over which
   neighbour, on which semaphores, on which devices, and the order of the actions of one device. -/
module

public import proofs.«01_k».proof.Proof.Gen.KernelIdeal
public import proofs.«01_k».proof.Proof.Gen.KernelIdeal.Skeleton

@[expose] public section

namespace Cert.KernelIdeal.Gather

open Cert.KernelIdeal Cert.KernelIdeal.Gen
open Idealize.ShloMosaic Idealize.SL.Sem

/-! ## Copies, pieces and neighbours -/

/-- A copy, named by where it lands: slot `k.1 + 1` of the gather buffer, quarter `k.2` of its rows. -/
abbrev Copy := Fin 27 × Fin 4

/-- A piece of the gather buffer: a slot and a quarter of its rows. -/
abbrev Piece := Fin 28 × Fin 4

/-- The piece a copy lands on. -/
def land (k : Copy) : Piece := (k.1.succ, k.2)

/-- How far along the column of the mesh the block of slot number `s` has come: 0 for the device's own row,
    1 to 3 from below, 4 to 6 from above. -/
def clsOf (s : ℕ) : ℕ := if s < 7 then s else (s - 7) % 7

/-- Whether row `z` of the mesh has a row `cls` steps away (1 to 3 below it, 4 to 6 above it). -/
def inCol (z cls : ℕ) : Bool := if cls ≤ 3 then decide (cls ≤ z) else decide (z + (cls - 3) ≤ 3)

/-- Whether device `c` ever fills slot `s`. -/
def holds (c : Dev nD) (s : Fin 28) : Bool := inCol (c.val / 4) (clsOf s.val)

/-- Whether device `c` receives copy `k`. -/
def act (c : Dev nD) (k : Copy) : Bool := holds c k.1.succ

/-- The four neighbours: 0 up, 1 down, 2 right, 3 left; up and down wrap around (no copy uses the wrap). -/
def nbr (c : Dev nD) (d : Fin 4) : Dev nD :=
  match d with
  | 0 => ⟨(c.val + 4) % 16, Nat.mod_lt _ (by decide)⟩
  | 1 => ⟨(c.val + 12) % 16, Nat.mod_lt _ (by decide)⟩
  | 2 => ⟨(4 * (c.val / 4) + (c.val % 4 + 1) % 4) % 16, Nat.mod_lt _ (by decide)⟩
  | 3 => ⟨(4 * (c.val / 4) + (c.val % 4 + 3) % 4) % 16, Nat.mod_lt _ (by decide)⟩

/-- The opposite direction. -/
def op (d : Fin 4) : Fin 4 :=
  match d with
  | 0 => 1
  | 1 => 0
  | 2 => 3
  | 3 => 2

/-- Whether device `c` has a neighbour in direction `d` (right and left always; the mesh has four rows). -/
def has (c : Dev nD) (d : Fin 4) : Bool :=
  match d with
  | 0 => decide (c.val / 4 < 3)
  | 1 => decide (0 < c.val / 4)
  | 2 => true
  | 3 => true

/-- The direction in which slot number `s`, quarter `h`, is sent. -/
def dirN (s h : ℕ) : Fin 4 :=
  if s ≤ 3 then 0 else if s ≤ 6 then 1 else if s ≤ 13 then 2 else if s ≤ 20 then 3 else if h < 2 then 2 else 3

/-- The slot number the sender reads for slot number `s`, quarter `h`. -/
def srcN (s h : ℕ) : ℕ :=
  if s = 4 then 0 else if s ≤ 6 then s - 1 else if s ≤ 13 then s - 7 else if s ≤ 20 then s - 14
  else if h < 2 then s - 14 else s - 7

theorem srcN_lt : ∀ k : Copy, srcN (k.1.val + 1) k.2.val < 28 := by decide

/-- The direction a copy travels, from its sender. -/
def dir (k : Copy) : Fin 4 := dirN (k.1.val + 1) k.2.val

/-- The piece the sender of a copy reads. -/
def src (k : Copy) : Piece := (⟨srcN (k.1.val + 1) k.2.val, srcN_lt k⟩, k.2)

/-- Whether device `c` sends copy `k`: its neighbour receives it. -/
def snd (c : Dev nD) (k : Copy) : Bool := act (nbr c (dir k)) k

/-- The number of columns between a device and the one whose block its slot number `s` holds. -/
def colN (s : ℕ) : ℕ := if s < 7 then 0 else if s < 14 then 3 else if s < 21 then 1 else 2

/-- The row of the mesh of the device whose block slot number `s` of a device of row `z` holds. -/
def rowN (z s : ℕ) : ℕ := if clsOf s ≤ 3 then z - clsOf s else z + (clsOf s - 3)

/-- The device whose block of `x` slot `s` of device `c` holds. -/
def origin (c : Dev nD) (s : Fin 28) : Dev nD :=
  ⟨(4 * rowN (c.val / 4) s.val + (c.val % 4 + colN s.val) % 4) % 16, Nat.mod_lt _ (by decide)⟩

/-! ## The semaphores -/

/-- The number of the semaphore a sender of a copy waits on, among the DMA semaphores. -/
def sendN (s h : ℕ) : ℕ :=
  if s < 7 then 3 + 4 * (if s = 1 then 0 else if s = 4 then 1 else if s < 4 then s else s - 1) + h
  else 51 + 12 * ((s - 7) % 7) + 4 * ((s - 7) / 7) + h

/-- The number of the semaphore a receiver of a copy waits on. -/
def recvN (s h : ℕ) : ℕ :=
  if s < 7 then 27 + 4 * (s - 1) + h else 135 + 12 * ((s - 7) % 7) + 4 * ((s - 7) / 7) + h

theorem sendN_lt : ∀ k : Copy, sendN (k.1.val + 1) k.2.val < 219 := by decide
theorem recvN_lt : ∀ k : Copy, recvN (k.1.val + 1) k.2.val < 219 := by decide

/-- The semaphore the sender of a copy waits on. -/
def sendSem (k : Copy) : DmaSem sig := (⟨sendN (k.1.val + 1) k.2.val, sendN_lt k⟩ : Fin 219)

/-- The semaphore the receiver of a copy waits on. -/
def recvSem (k : Copy) : DmaSem sig := (⟨recvN (k.1.val + 1) k.2.val, recvN_lt k⟩ : Fin 219)

/-- The barrier semaphore. -/
abbrev barSem : Sem sig := sig.barrier 0 rfl

/-! ## The actions of a device, in order -/

/-- One action of the kernel after its opening handshake. -/
inductive Act where
  /-- start a copy -/
  | start (k : Copy)
  /-- wait until a copy has landed here -/
  | wait (k : Copy)
  /-- wait until the copy's source has been read out -/
  | drain (k : Copy)
  /-- the product of one slot, stored -/
  | gemm (s : Fin 28)
  /-- the copy of `w` the products read -/
  | initW

/-- The actions in program order. -/
def acts : List Act :=
  .start (0, 0) :: .start (3, 0) :: .start (6, 0) :: .start (13, 0) :: .start (0, 1) :: .start (3, 1) ::
  .start (6, 1) :: .start (13, 1) :: .start (0, 2) :: .start (3, 2) :: .start (6, 2) :: .start (13, 2) ::
  .start (0, 3) :: .start (3, 3) :: .start (6, 3) :: .start (13, 3) :: .initW :: .gemm 0 :: .wait (0, 0) ::
  .start (1, 0) :: .start (7, 0) :: .start (14, 0) :: .wait (0, 1) :: .start (1, 1) :: .start (7, 1) ::
  .start (14, 1) :: .wait (0, 2) :: .start (1, 2) :: .start (7, 2) :: .start (14, 2) :: .wait (0, 3) ::
  .start (1, 3) :: .start (7, 3) :: .start (14, 3) :: .gemm 1 :: .wait (3, 0) :: .start (4, 0) ::
  .start (10, 0) :: .start (17, 0) :: .wait (3, 1) :: .start (4, 1) :: .start (10, 1) :: .start (17, 1) ::
  .wait (3, 2) :: .start (4, 2) :: .start (10, 2) :: .start (17, 2) :: .wait (3, 3) :: .start (4, 3) ::
  .start (10, 3) :: .start (17, 3) :: .gemm 4 :: .wait (6, 0) :: .start (20, 0) :: .wait (6, 1) ::
  .start (20, 1) :: .wait (13, 2) :: .start (20, 2) :: .wait (13, 3) :: .start (20, 3) :: .wait (6, 2) ::
  .wait (6, 3) :: .wait (13, 0) :: .wait (13, 1) :: .gemm 7 :: .gemm 14 :: .wait (1, 0) :: .start (2, 0) ::
  .start (8, 0) :: .start (15, 0) :: .wait (1, 1) :: .start (2, 1) :: .start (8, 1) :: .start (15, 1) ::
  .wait (1, 2) :: .start (2, 2) :: .start (8, 2) :: .start (15, 2) :: .wait (1, 3) :: .start (2, 3) ::
  .start (8, 3) :: .start (15, 3) :: .gemm 2 :: .wait (4, 0) :: .start (5, 0) :: .start (11, 0) ::
  .start (18, 0) :: .wait (4, 1) :: .start (5, 1) :: .start (11, 1) :: .start (18, 1) :: .wait (4, 2) ::
  .start (5, 2) :: .start (11, 2) :: .start (18, 2) :: .wait (4, 3) :: .start (5, 3) :: .start (11, 3) ::
  .start (18, 3) :: .gemm 5 :: .wait (7, 0) :: .start (21, 0) :: .wait (7, 1) :: .start (21, 1) ::
  .wait (14, 2) :: .start (21, 2) :: .wait (14, 3) :: .start (21, 3) :: .wait (7, 2) :: .wait (7, 3) ::
  .wait (14, 0) :: .wait (14, 1) :: .gemm 8 :: .gemm 15 :: .wait (10, 0) :: .start (24, 0) ::
  .wait (10, 1) :: .start (24, 1) :: .wait (17, 2) :: .start (24, 2) :: .wait (17, 3) :: .start (24, 3) ::
  .wait (10, 2) :: .wait (10, 3) :: .wait (17, 0) :: .wait (17, 1) :: .gemm 11 :: .gemm 18 :: .wait (2, 0) ::
  .start (9, 0) :: .start (16, 0) :: .wait (2, 1) :: .start (9, 1) :: .start (16, 1) :: .wait (2, 2) ::
  .start (9, 2) :: .start (16, 2) :: .wait (2, 3) :: .start (9, 3) :: .start (16, 3) :: .gemm 3 ::
  .wait (5, 0) :: .start (12, 0) :: .start (19, 0) :: .wait (5, 1) :: .start (12, 1) :: .start (19, 1) ::
  .wait (5, 2) :: .start (12, 2) :: .start (19, 2) :: .wait (5, 3) :: .start (12, 3) :: .start (19, 3) ::
  .gemm 6 :: .wait (8, 0) :: .start (22, 0) :: .wait (8, 1) :: .start (22, 1) :: .wait (15, 2) ::
  .start (22, 2) :: .wait (15, 3) :: .start (22, 3) :: .wait (8, 2) :: .wait (8, 3) :: .wait (15, 0) ::
  .wait (15, 1) :: .gemm 9 :: .gemm 16 :: .wait (11, 0) :: .start (25, 0) :: .wait (11, 1) ::
  .start (25, 1) :: .wait (18, 2) :: .start (25, 2) :: .wait (18, 3) :: .start (25, 3) :: .wait (11, 2) ::
  .wait (11, 3) :: .wait (18, 0) :: .wait (18, 1) :: .gemm 12 :: .gemm 19 :: .wait (20, 0) ::
  .wait (20, 1) :: .wait (20, 2) :: .wait (20, 3) :: .gemm 21 :: .wait (9, 0) :: .start (23, 0) ::
  .wait (9, 1) :: .start (23, 1) :: .wait (16, 2) :: .start (23, 2) :: .wait (16, 3) :: .start (23, 3) ::
  .wait (9, 2) :: .wait (9, 3) :: .wait (16, 0) :: .wait (16, 1) :: .gemm 10 :: .gemm 17 :: .wait (12, 0) ::
  .start (26, 0) :: .wait (12, 1) :: .start (26, 1) :: .wait (19, 2) :: .start (26, 2) :: .wait (19, 3) ::
  .start (26, 3) :: .wait (12, 2) :: .wait (12, 3) :: .wait (19, 0) :: .wait (19, 1) :: .gemm 13 ::
  .gemm 20 :: .wait (21, 0) :: .wait (21, 1) :: .wait (21, 2) :: .wait (21, 3) :: .gemm 22 ::
  .wait (24, 0) :: .wait (24, 1) :: .wait (24, 2) :: .wait (24, 3) :: .gemm 25 :: .wait (22, 0) ::
  .wait (22, 1) :: .wait (22, 2) :: .wait (22, 3) :: .gemm 23 :: .wait (25, 0) :: .wait (25, 1) ::
  .wait (25, 2) :: .wait (25, 3) :: .gemm 26 :: .wait (23, 0) :: .wait (23, 1) :: .wait (23, 2) ::
  .wait (23, 3) :: .gemm 24 :: .wait (26, 0) :: .wait (26, 1) :: .wait (26, 2) :: .wait (26, 3) ::
  .gemm 27 :: .drain (0, 0) :: .drain (3, 0) :: .drain (6, 0) :: .drain (13, 0) :: .drain (0, 1) ::
  .drain (3, 1) :: .drain (6, 1) :: .drain (13, 1) :: .drain (0, 2) :: .drain (3, 2) :: .drain (6, 2) ::
  .drain (13, 2) :: .drain (0, 3) :: .drain (3, 3) :: .drain (6, 3) :: .drain (13, 3) :: .drain (1, 0) ::
  .drain (7, 0) :: .drain (14, 0) :: .drain (1, 1) :: .drain (7, 1) :: .drain (14, 1) :: .drain (1, 2) ::
  .drain (7, 2) :: .drain (14, 2) :: .drain (1, 3) :: .drain (7, 3) :: .drain (14, 3) :: .drain (4, 0) ::
  .drain (10, 0) :: .drain (17, 0) :: .drain (4, 1) :: .drain (10, 1) :: .drain (17, 1) :: .drain (4, 2) ::
  .drain (10, 2) :: .drain (17, 2) :: .drain (4, 3) :: .drain (10, 3) :: .drain (17, 3) :: .drain (20, 0) ::
  .drain (20, 1) :: .drain (20, 2) :: .drain (20, 3) :: .drain (2, 0) :: .drain (8, 0) :: .drain (15, 0) ::
  .drain (2, 1) :: .drain (8, 1) :: .drain (15, 1) :: .drain (2, 2) :: .drain (8, 2) :: .drain (15, 2) ::
  .drain (2, 3) :: .drain (8, 3) :: .drain (15, 3) :: .drain (5, 0) :: .drain (11, 0) :: .drain (18, 0) ::
  .drain (5, 1) :: .drain (11, 1) :: .drain (18, 1) :: .drain (5, 2) :: .drain (11, 2) :: .drain (18, 2) ::
  .drain (5, 3) :: .drain (11, 3) :: .drain (18, 3) :: .drain (21, 0) :: .drain (21, 1) :: .drain (21, 2) ::
  .drain (21, 3) :: .drain (24, 0) :: .drain (24, 1) :: .drain (24, 2) :: .drain (24, 3) :: .drain (9, 0) ::
  .drain (16, 0) :: .drain (9, 1) :: .drain (16, 1) :: .drain (9, 2) :: .drain (16, 2) :: .drain (9, 3) ::
  .drain (16, 3) :: .drain (12, 0) :: .drain (19, 0) :: .drain (12, 1) :: .drain (19, 1) :: .drain (12, 2) ::
  .drain (19, 2) :: .drain (12, 3) :: .drain (19, 3) :: .drain (22, 0) :: .drain (22, 1) :: .drain (22, 2) ::
  .drain (22, 3) :: .drain (25, 0) :: .drain (25, 1) :: .drain (25, 2) :: .drain (25, 3) :: .drain (23, 0) ::
  .drain (23, 1) :: .drain (23, 2) :: .drain (23, 3) :: .drain (26, 0) :: .drain (26, 1) :: .drain (26, 2) ::
  .drain (26, 3) :: []

/-- The position of each copy in the order of the starts, listed by landing slot and quarter. -/
def posTable : List ℕ := [
  0, 4, 8, 12, 16, 19, 22, 25, 44, 47, 50, 53, 1, 5, 9, 13, 28, 31, 34, 37, 56, 59, 62, 65, 2, 6, 10, 14,
  17, 20, 23, 26, 45, 48, 51, 54, 76, 78, 80, 82, 29, 32, 35, 38, 57, 60, 63, 66, 84, 86, 88, 90, 3, 7, 11,
  15, 18, 21, 24, 27, 46, 49, 52, 55, 77, 79, 81, 83, 30, 33, 36, 39, 58, 61, 64, 67, 85, 87, 89, 91, 40,
  41, 42, 43, 68, 69, 70, 71, 92, 93, 94, 95, 100, 101, 102, 103, 72, 73, 74, 75, 96, 97, 98, 99, 104, 105,
  106, 107]

/-- The position of a copy in the order of the starts. -/
def pos (k : Copy) : ℕ := posTable.getD (4 * k.1.val + k.2.val) 0

/-! ## What the tables say, checked once -/

theorem pos_inj : ∀ k k' : Copy, pos k = pos k' → k = k' := by decide +kernel
theorem pos_lt : ∀ k : Copy, pos k < 108 := by decide +kernel
theorem recvSem_inj : ∀ k k' : Copy, recvSem k = recvSem k' → k = k' := by decide +kernel
theorem sendSem_inj : ∀ k k' : Copy, sendSem k = sendSem k' → k = k' := by decide +kernel
theorem recv_ne_send : ∀ k k' : Copy, recvSem k ≠ sendSem k' := by decide +kernel
theorem src_dir_inj : ∀ k k' : Copy, src k = src k' → dir k = dir k' → k = k' := by decide +kernel
theorem nbr_op : ∀ (c : Dev nD) (d : Fin 4), nbr (nbr c d) (op d) = c := by decide +kernel
theorem op_op : ∀ d : Fin 4, op (op d) = d := by decide
theorem has_nbr : ∀ (c : Dev nD) (d : Fin 4), has (nbr c d) (op d) = has c d := by decide +kernel
theorem snd_has : ∀ (c : Dev nD) (k : Copy), snd c k = true → has c (dir k) = true := by decide +kernel
theorem snd_src : ∀ (c : Dev nD) (k : Copy), snd c k = true → holds c (src k).1 = true := by decide +kernel
theorem origin_land : ∀ (c : Dev nD) (k : Copy), snd c k = true →
    origin (nbr c (dir k)) (land k).1 = origin c (src k).1 := by decide +kernel
theorem origin_zero : ∀ c : Dev nD, origin c 0 = c := by decide +kernel
theorem holds_zero : ∀ c : Dev nD, holds c 0 = true := by decide +kernel
theorem origin_surj : ∀ c o : Dev nD, ∃ s, holds c s = true ∧ origin c s = o := by decide +kernel
theorem src_ne_land_snd : ∀ k : Copy, (src k).2 = k.2 := fun _ => rfl

end Cert.KernelIdeal.Gather

end
-- ==== Proof.Text.lean ====
/- The program of one device as the list of its actions: what an action runs, what the list runs, and that
   the kernel's body is its opening handshake followed by the list. -/
module

public import proofs.«01_k».proof.Proof.Sched

@[expose] public section

noncomputable section

namespace Cert.KernelIdeal.Gather

open Cert.KernelIdeal Cert.KernelIdeal.Gen
open Idealize.ShloMosaic Idealize.SL.Sem

variable {F : FTy → Type} [FloatOps F]

/-! ## The views the actions name -/

abbrev xM : Memref sig .tc .vmem S128x2048 .bf16 := Memref.whole cc0_stg0_0
abbrev wM : Memref sig .tc .vmem S2048x128 .bf16 := Memref.whole cc0_stg1_0
abbrev oM : Memref sig .tc .vmem S2048x128 .f32 := Memref.whole cc0_stg2_0
abbrev cM : Memref sig .tc .vmem S28x128x2048 .bf16 := Memref.whole cc0_scratch0
abbrev bM : Memref sig .tc .vmem S2048x128 .bf16 := Memref.whole cc0_scratch1

theorem piece_inb : ∀ (p : Piece) (a : Fin 3), (![p.1.val, 32 * p.2.val, 0] : Fin 3 → ℕ) a + S1x32x2048.size a ≤ S28x128x2048.size a := by
  decide +kernel

theorem piece_words : ∀ p : Piece,
    (Rect.unit (s := S28x128x2048) ![p.1.val, 32 * p.2.val, 0] S1x32x2048.size (piece_inb p)).WholeWords (EltTy.packing .bf16) := by
  decide +kernel

theorem slot_inb : ∀ (s : Fin 28) (a : Fin 3), (![s.val, 0, 0] : Fin 3 → ℕ) a + S1x128x2048.size a ≤ S28x128x2048.size a := by
  decide +kernel

theorem rows_inb : ∀ (o : Dev nD) (a : Fin 2), (![128 * o.val, 0] : Fin 2 → ℕ) a + S128x128.size a ≤ S2048x128.size a := by
  decide +kernel

/-- A piece of the gather buffer, as the copies name it. -/
abbrev pieceM (p : Piece) : Memref sig .tc .vmem S32x2048 .bf16 :=
  (cM.slice (Rect.unit (s := S28x128x2048) ![p.1.val, 32 * p.2.val, 0] S1x32x2048.size (piece_inb p)) (fun _ => rfl)).squeeze
    S32x2048 squeezes_S1x32x2048_S32x2048

theorem piece_exact (p : Piece) : (pieceM p).view.WordExact :=
  ((Memref.isWhole_whole cc0_scratch0).wordExact_slice rfl _ (piece_words p)).reshape _ _

/-- The rectangle of one slot, of all of `x`'s block, of all of `w`'s block. -/
abbrev slotR (s : Fin 28) : Rect S28x128x2048 := Rect.unit (s := S28x128x2048) ![s.val, 0, 0] S1x128x2048.size (slot_inb s)
abbrev allX : Rect S128x2048 := Rect.unit (s := S128x2048) ![0, 0] S128x2048.size inb_S128x2048_S128x2048_0_0
abbrev allW : Rect S2048x128 := Rect.unit (s := S2048x128) ![0, 0] S2048x128.size inb_S2048x128_S2048x128_0_0

/-- The value stored for one slot: the product of the slot and `w`'s block, through the gelu. -/
def gemmVal (v : Vec F S1x128x2048 .bf16) (w : Vec F S2048x128 .bf16) : FVec F S128x128 .f32 := k0_pay4 (k0_pay3 v) w

abbrev P (F : FTy → Type) [FloatOps F] (α : Type) : Type 1 := Prog (TpuEff nD τ sig (Elt F) Λ₀ .tc) α

/-! ## What an action runs -/

def startOp (dev : Dev nD) (k : Copy) : P F PUnit :=
  Prog.lift (.enqueueDma (pieceM (src k)) (.remote (Dev.tc dev) (pieceM (land k)) (.dma (sendSem k))) (.dma (recvSem k))
    (piece_exact _) (piece_exact _) ⟨⟨rfl, Or.inl rfl⟩, trivial⟩)

def waitOp (k : Copy) : P F PUnit :=
  Prog.lift (.waitDma2 (recvSem k) (pieceM (land k)) (pieceM (land k)) (piece_exact _) (piece_exact _))

def drainOp (k : Copy) : P F PUnit :=
  Prog.lift (.waitDma2 (sendSem k) (pieceM (land k)) (pieceM (src k)) (piece_exact _) (piece_exact _))

/-- The product of slot `s`, stored at the rows from `off`, then `B`. -/
def gemmThen {α : Type} (s : Fin 28) (off : Fin 2 → ℕ) (inb : ∀ a, off a + S128x128.size a ≤ S2048x128.size a) (B : P F α) : P F α :=
  Prog.lift (.load cM (slotR s).toLoadRect (View.loadsAt_vmem h_S1x128x2048)) >>= fun v =>
  Prog.lift (.load bM allW.toLoadRect (View.loadsAt_vmem h_S2048x128)) >>= fun w =>
  Prog.lift (.load oM (Rect.unit (s := S2048x128) off S128x128.size inb).toLoadRect (View.loadsAt_vmem h_S128x128)) >>= fun _ =>
  Prog.lift (.store oM (Rect.unit (s := S2048x128) off S128x128.size inb) (gemmVal v w) Finset.univ
    (View.stores_vmem_bits_univ h_S128x128 rfl) (.inl rfl)) >>= fun _ => B

/-- The product of slot `s`, stored at the rows from `off`. -/
def gemmOp (s : Fin 28) (off : Fin 2 → ℕ) (inb : ∀ a, off a + S128x128.size a ≤ S2048x128.size a) : P F PUnit :=
  gemmThen s off inb (pure ⟨⟩)

/-- `w`'s block copied to the buffer the products read, then `B`. -/
def initWThen {α : Type} (B : P F α) : P F α :=
  Prog.lift (.load wM allW.toLoadRect (View.loadsAt_vmem h_S2048x128)) >>= fun w =>
  Prog.lift (.load bM allW.toLoadRect (View.loadsAt_vmem h_S2048x128)) >>= fun _ =>
  Prog.lift (.store bM allW (k0_pay2 w) Finset.univ (View.stores_vmem h_S2048x128
    ((Memref.isWhole_whole cc0_scratch1).storeExact_slice rfl _ packedbf16_S2048x128_S2048x128_0_0) (fun _ => rfl)) (.inl rfl)) >>= fun _ => B

/-- `x`'s block copied to slot 0 of the gather buffer, then `B`. -/
def initXThen {α : Type} (B : P F α) : P F α :=
  Prog.lift (.load xM allX.toLoadRect (View.loadsAt_vmem h_S128x2048)) >>= fun v =>
  Prog.lift (.load cM (slotR 0).toLoadRect (View.loadsAt_vmem h_S1x128x2048)) >>= fun _ =>
  Prog.lift (.store cM (slotR 0) (k0_pay1 v) Finset.univ (View.stores_vmem h_S1x128x2048
    ((Memref.isWhole_whole cc0_scratch0).storeExact_slice rfl _ packedbf16_S28x128x2048_S1x128x2048_0_0_0) (fun _ => rfl)) (.inl rfl)) >>= fun _ => B

def initWOp : P F PUnit := initWThen (pure ⟨⟩)
def initXOp : P F PUnit := initXThen (pure ⟨⟩)

/-- What one action runs on device `c`: nothing on the devices that take no part in it. -/
def actProg (c : Dev nD) : Act → P F PUnit
  | .start k => if snd c k = true then startOp (nbr c (dir k)) k else .ret ⟨⟩
  | .wait k => if act c k = true then waitOp k else .ret ⟨⟩
  | .drain k => if snd c k = true then drainOp k else .ret ⟨⟩
  | .gemm s => if holds c s = true then gemmOp s ![128 * (origin c s).val, 0] (rows_inb _) else .ret ⟨⟩
  | .initW => initWOp

/-- A list of actions, then `K`. -/
def runActs (c : Dev nD) : List Act → P F PUnit → P F PUnit
  | [], K => K
  | a :: L, K => actProg c a >>= fun _ => runActs c L K

theorem runActs_cons (c : Dev nD) (a : Act) (L : List Act) (K : P F PUnit) :
    runActs c (a :: L) K = (actProg c a >>= fun _ => runActs c L K) := rfl

/-- One signal of the opening handshake, to the neighbour in direction `d`, if there is one. -/
def sigOp (c : Dev nD) (d : Fin 4) : P F PUnit :=
  if has c d = true then semSignalWord (nbr c d : Dev nD) barSem 1#32 else .ret ⟨⟩

/-- One wait for a single unit at the barrier, if there is a neighbour in direction `d`. -/
def barOp (c : Dev nD) (d : Fin 4) : P F PUnit :=
  if has c d = true then semWaitWord barSem 1#32 else .ret ⟨⟩

/-- The whole body on device `c`. -/
def bodyText (c : Dev nD) : P F PUnit :=
  sigOp c 3 >>= fun _ => sigOp c 2 >>= fun _ => sigOp c 0 >>= fun _ => sigOp c 1 >>= fun _ =>
  semWaitWord barSem 2#32 >>= fun _ => barOp c 0 >>= fun _ => barOp c 1 >>= fun _ =>
  initXOp >>= fun _ => runActs c acts (pure ⟨⟩)

/-! ## Peeling the printed program, an operation at a time -/

section Peel

variable {α β γ : Type} (c : Dev nD)

theorem peel_assoc {A : P F α} {f : α → P F β} {g : β → P F γ} {R : P F γ} (h : (A >>= fun x => f x >>= g) = R) : (A >>= f) >>= g = R :=
  (Prog.bind_assoc A f g).trans h

theorem peel_pure {v : α} {g : α → P F β} {R : P F β} (h : g v = R) : (pure v : P F α) >>= g = R := h

theorem peel_dev {f : Dev nD → P F β} {g : Dev nD → P F β} (h : ∀ v, f v = g v) :
    ((Prog.lift .deviceId : P F (Dev nD)) >>= f) = .op .deviceId g := congrArg (Prog.op TpuEff.deviceId) (funext h)

theorem peel_op {A : P F α} {f g : α → P F β} (h : ∀ v, f v = g v) : (A >>= f) = A >>= g := congrArg (A >>= ·) (funext h)

theorem peel_start {Q : Prop} [Decidable Q] {k : Copy} {B : P F α} {f : α → P F PUnit} {L K} {o : Q → P F PUnit}
    (ho : ∀ q, ∃ dev, dev = nbr c (dir k) ∧ o q = startOp dev k) (hQ : Q ↔ snd c k = true) (h : B >>= f = runActs c L K) :
    ((if q : Q then o q >>= fun _ => B else B) >>= f) = runActs c (.start k :: L) K := by
  rw [runActs_cons]; dsimp only [actProg]
  by_cases q : Q
  · obtain ⟨_, rfl, e⟩ := ho q
    rw [dif_pos q, if_pos (hQ.mp q), e]
    show (startOp _ k >>= fun _ => B >>= f) = _
    rw [h]
  · rw [dif_neg q, if_neg (fun h => q (hQ.mpr h))]; exact h

theorem peel_start' {k : Copy} {f : PUnit → P F PUnit} {L K} {o : P F PUnit}
    (ho : ∃ dev, dev = nbr c (dir k) ∧ o = startOp dev k) (hQ : snd c k = true) (h : f ⟨⟩ = runActs c L K) :
    (o >>= f) = runActs c (.start k :: L) K := by
  obtain ⟨_, rfl, rfl⟩ := ho
  rw [runActs_cons]; dsimp only [actProg]
  rw [if_pos hQ]
  show (startOp _ k >>= fun _ => f ⟨⟩) = _
  rw [h]

theorem peel_wait {Q : Prop} [Decidable Q] {k : Copy} {B : P F α} {f : α → P F PUnit} {L K}
    {o : Q → P F PUnit}
    (ho : ∀ _q, o _q = waitOp k) (hQ : Q ↔ act c k = true) (h : B >>= f = runActs c L K) :
    ((if q : Q then o q >>= fun _ => B else B) >>= f) = runActs c (.wait k :: L) K := by
  obtain rfl : o = fun _q => waitOp k := funext ho
  rw [runActs_cons]; dsimp only [actProg]
  by_cases q : Q
  · rw [dif_pos q, if_pos (hQ.mp q)]
    show (waitOp k >>= fun _ => B >>= f) = _
    rw [h]
  · rw [dif_neg q, if_neg (fun h => q (hQ.mpr h))]; exact h

theorem peel_wait' {k : Copy} {f : PUnit → P F PUnit} {L K}
    {o : P F PUnit}
    (ho : o = waitOp k) (hQ : act c k = true) (h : f ⟨⟩ = runActs c L K) : (o >>= f) = runActs c (.wait k :: L) K := by
  subst ho
  rw [runActs_cons]; dsimp only [actProg]
  rw [if_pos hQ]
  show (waitOp k >>= fun _ => f ⟨⟩) = _
  rw [h]

theorem peel_drain {Q : Prop} [Decidable Q] {k : Copy} {B : P F α} {f : α → P F PUnit} {L K}
    {o : Q → P F PUnit}
    (ho : ∀ _q, o _q = drainOp k) (hQ : Q ↔ snd c k = true) (h : B >>= f = runActs c L K) :
    ((if q : Q then o q >>= fun _ => B else B) >>= f) = runActs c (.drain k :: L) K := by
  obtain rfl : o = fun _q => drainOp k := funext ho
  rw [runActs_cons]; dsimp only [actProg]
  by_cases q : Q
  · rw [dif_pos q, if_pos (hQ.mp q)]
    show (drainOp k >>= fun _ => B >>= f) = _
    rw [h]
  · rw [dif_neg q, if_neg (fun h => q (hQ.mpr h))]; exact h

theorem peel_drain' {k : Copy} {f : PUnit → P F PUnit} {L K}
    {o : P F PUnit}
    (ho : o = drainOp k) (hQ : snd c k = true) (h : f ⟨⟩ = runActs c L K) : (o >>= f) = runActs c (.drain k :: L) K := by
  subst ho
  rw [runActs_cons]; dsimp only [actProg]
  rw [if_pos hQ]
  show (drainOp k >>= fun _ => f ⟨⟩) = _
  rw [h]

theorem peel_gemm {Q : Prop} [Decidable Q] {s : Fin 28} {B : P F α} {f : α → P F PUnit} {L K} {A : Q → P F α}
    (hA : ∀ q, ∃ off inb, off = ![128 * (origin c s).val, 0] ∧ A q = gemmThen s off inb B)
    (hQ : Q ↔ holds c s = true) (h : B >>= f = runActs c L K) :
    ((if q : Q then A q else B) >>= f) = runActs c (.gemm s :: L) K := by
  rw [runActs_cons]; dsimp only [actProg]
  by_cases q : Q
  · obtain ⟨_, _, rfl, e⟩ := hA q
    rw [dif_pos q, if_pos (hQ.mp q), e]
    show gemmThen s _ _ (B >>= f) = gemmThen s _ _ (runActs c L K)
    rw [h]
  · rw [dif_neg q, if_neg (fun h => q (hQ.mpr h))]; exact h

theorem open_gemm {s : Fin 28} {A : P F PUnit} (off : Fin 2 → ℕ) {inb} {L K}
    (hQ : holds c s = true) (ho : off = ![128 * (origin c s).val, 0]) (h : A = gemmThen s off inb (runActs c L K)) :
    A = runActs c (.gemm s :: L) K := by
  subst ho
  rw [h, runActs_cons]; dsimp only [actProg]; rw [if_pos hQ]; rfl

theorem open_initW {A : P F PUnit} {L K} (h : A = initWThen (runActs c L K)) : A = runActs c (.initW :: L) K := h

theorem open_initX {A : P F PUnit} {B : P F PUnit} (h : A = initXThen B) : A = initXOp >>= fun _ => B := h

theorem peel_sig {Q : Prop} [Decidable Q] {dev : Q → Dev nD} {d : Fin 4} {B : P F α} {f : α → P F PUnit} {g : PUnit → P F PUnit}
    (hQ : Q ↔ has c d = true) (hd : ∀ h, dev h = nbr c d) (h : B >>= f = g ⟨⟩) :
    ((if q : Q then semSignalWord (dev q) barSem 1#32 >>= fun _ => B else B) >>= f) = (sigOp c d >>= g) := by
  unfold sigOp
  by_cases q : Q
  · rw [dif_pos q, if_pos (hQ.mp q), hd q]
    show (semSignalWord _ _ _ >>= fun _ => B >>= f) = (semSignalWord _ _ _ >>= fun _ => g ⟨⟩)
    rw [h]
  · rw [dif_neg q, if_neg (fun h => q (hQ.mpr h))]; exact h

theorem peel_sig' {dev : Dev nD} {d : Fin 4} {f g : PUnit → P F PUnit}
    (hQ : has c d = true) (hd : dev = nbr c d) (h : f ⟨⟩ = g ⟨⟩) :
    (semSignalWord dev barSem 1#32 >>= f) = (sigOp c d >>= g) := by
  unfold sigOp
  rw [if_pos hQ, hd]
  show (semSignalWord _ _ _ >>= fun _ => f ⟨⟩) = (semSignalWord _ _ _ >>= fun _ => g ⟨⟩)
  rw [h]

theorem peel_bar {Q : Prop} [Decidable Q] {d : Fin 4} {B : P F α} {f : α → P F PUnit} {g : PUnit → P F PUnit}
    (hQ : Q ↔ has c d = true) (h : B >>= f = g ⟨⟩) :
    ((if _q : Q then semWaitWord barSem 1#32 >>= fun _ => B else B) >>= f) = (barOp c d >>= g) := by
  unfold barOp
  by_cases q : Q
  · rw [dif_pos q, if_pos (hQ.mp q)]
    show (semWaitWord _ _ >>= fun _ => B >>= f) = (semWaitWord _ _ >>= fun _ => g ⟨⟩)
    rw [h]
  · rw [dif_neg q, if_neg (fun h => q (hQ.mpr h))]; exact h

end Peel

end Cert.KernelIdeal.Gather

end

end
-- ==== Proof.Pieces.lean ====
/- The gather buffer in pieces: which elements a piece and a slot are, what a copy leaves on the piece it
   lands on, what a load of a slot reads, and what the two stores into the buffers leave. -/
module

public import proofs.«01_k».proof.Proof.Text
public import Idealize.ShloMosaic.Lib.ValueLayout
public import Idealize.ShloMosaic.Lib.Pipeline.Value
public import Idealize.ShloMosaic.Lib.Pipeline.Kit

@[expose] public section

noncomputable section

namespace Cert.KernelIdeal.Gather

open Cert.KernelIdeal Cert.KernelIdeal.Gen
open Idealize.ShloMosaic Idealize.ShloMosaic.ValueIdx Idealize.SL.Sem

variable {F : FTy → Type} [FloatOps F]

/-! ## Contents -/

/-- A device's block of `x`, of `w`, of the result, the gather buffer. -/
abbrev XC (F : FTy → Type) := (cc0_stg0_0 : Ref sig .tc).ty.Contents (Elt F)
abbrev WC (F : FTy → Type) := (cc0_stg1_0 : Ref sig .tc).ty.Contents (Elt F)
abbrev OC (F : FTy → Type) := (cc0_stg2_0 : Ref sig .tc).ty.Contents (Elt F)
abbrev CC (F : FTy → Type) := (cc0_scratch0 : Ref sig .tc).ty.Contents (Elt F)

/-- What the gather buffer of device `c` holds in the slots it has filled: slot `s` the block of `origin c s`. -/
def commOf (X : Dev nD → XC F) (c : Dev nD) : CC F :=
  fun i => X (origin c (i (0 : Fin 3))) (ix2 (n0 := 128) (n1 := 2048) (i (1 : Fin 3)) (i (2 : Fin 3)))

/-- A block of `x` as a load of a slot reads it. -/
def slotVec (x : XC F) : Vec F S1x128x2048 .bf16 :=
  fun j => x (ix2 (n0 := 128) (n1 := 2048) (j (1 : Fin 3)) (j (2 : Fin 3)))

/-- The row of devices a row of the result belongs to. -/
def rowDev (i : S2048x128.Idx) : Dev nD := ⟨(i (0 : Fin 2)).val / 128, by have := (i (0 : Fin 2)).isLt; exact Nat.div_lt_of_lt_mul this⟩

/-- What a device's result holds at the end: at the rows of each device, the product of that device's block. -/
def outOf (X : Dev nD → XC F) (w : WC F) : OC F :=
  fun i => gemmVal (slotVec (X (rowDev i))) w (ix2 (n0 := 128) (n1 := 128) ⟨(i (0 : Fin 2)).val % 128, Nat.mod_lt _ (by decide)⟩ (i (1 : Fin 2)))

/-! ## Sets -/

/-- The elements of a piece, of a slot. -/
abbrev pieceSet (p : Piece) : Finset S28x128x2048.Idx := (pieceM p).view.set
abbrev slotSet (s : Fin 28) : Finset S28x128x2048.Idx := (slotR s).set

theorem mem_piece (p : Piece) (i : S28x128x2048.Idx) :
    i ∈ pieceSet p ↔ (i (0 : Fin 3)).val = p.1.val ∧ (i (1 : Fin 3)).val / 32 = p.2.val := by
  have e : pieceSet p = (Rect.unit (s := S28x128x2048) ![p.1.val, 32 * p.2.val, 0] S1x32x2048.size (piece_inb p)).set := by
    show (View.reshape _ _ _).set = _
    rw [View.set_reshape]
    exact View.set_slice_whole cc0_scratch0 _
  rw [e, Rect.mem_set_unit]
  constructor
  · intro h
    have h0 : p.1.val ≤ (i (0 : Fin 3)).val ∧ (i (0 : Fin 3)).val < p.1.val + 1 := h (0 : Fin 3)
    have h1 : 32 * p.2.val ≤ (i (1 : Fin 3)).val ∧ (i (1 : Fin 3)).val < 32 * p.2.val + 32 := h (1 : Fin 3)
    omega
  · rintro ⟨h0, h1⟩ a
    have h2 : (i (2 : Fin 3)).val < 2048 := (i (2 : Fin 3)).isLt
    match a with
    | ⟨0, _⟩ => show p.1.val ≤ (i (0 : Fin 3)).val ∧ (i (0 : Fin 3)).val < p.1.val + 1; omega
    | ⟨1, _⟩ => show 32 * p.2.val ≤ (i (1 : Fin 3)).val ∧ (i (1 : Fin 3)).val < 32 * p.2.val + 32; omega
    | ⟨2, _⟩ => show 0 ≤ (i (2 : Fin 3)).val ∧ (i (2 : Fin 3)).val < 0 + 2048; omega

theorem mem_slot (s : Fin 28) (i : S28x128x2048.Idx) : i ∈ slotSet s ↔ (i (0 : Fin 3)).val = s.val := by
  rw [Rect.mem_set_unit]
  constructor
  · intro h
    have h0 : s.val ≤ (i (0 : Fin 3)).val ∧ (i (0 : Fin 3)).val < s.val + 1 := h (0 : Fin 3)
    omega
  · rintro h0 a
    have h1 : (i (1 : Fin 3)).val < 128 := (i (1 : Fin 3)).isLt
    have h2 : (i (2 : Fin 3)).val < 2048 := (i (2 : Fin 3)).isLt
    match a with
    | ⟨0, _⟩ => show s.val ≤ (i (0 : Fin 3)).val ∧ (i (0 : Fin 3)).val < s.val + 1; omega
    | ⟨1, _⟩ => show 0 ≤ (i (1 : Fin 3)).val ∧ (i (1 : Fin 3)).val < 0 + 128; omega
    | ⟨2, _⟩ => show 0 ≤ (i (2 : Fin 3)).val ∧ (i (2 : Fin 3)).val < 0 + 2048; omega

theorem piece_disjoint (p p' : Piece) (h : p ≠ p') : Disjoint (pieceSet p) (pieceSet p') := by
  rw [Finset.disjoint_left]
  intro i hi hi'
  rw [mem_piece] at hi hi'
  exact h (Prod.ext (Fin.ext (hi.1.symm.trans hi'.1)) (Fin.ext (hi.2.symm.trans hi'.2)))

/-- The piece an element is in. -/
def pieceAt (i : S28x128x2048.Idx) : Piece :=
  (i (0 : Fin 3), ⟨(i (1 : Fin 3)).val / 32, Nat.div_lt_of_lt_mul (i (1 : Fin 3)).isLt⟩)

theorem mem_pieceAt (i : S28x128x2048.Idx) : i ∈ pieceSet (pieceAt i) := (mem_piece _ _).mpr ⟨rfl, rfl⟩

theorem piece_cover : Finset.univ.biUnion pieceSet = (Finset.univ : Finset S28x128x2048.Idx) := by
  ext i
  simp only [Finset.mem_biUnion, Finset.mem_univ, true_and, iff_true]
  exact ⟨pieceAt i, mem_pieceAt i⟩

theorem slot_cover (s : Fin 28) : Finset.univ.biUnion (fun h : Fin 4 => pieceSet (s, h)) = slotSet s := by
  ext i
  simp only [Finset.mem_biUnion, Finset.mem_univ, true_and]
  constructor
  · rintro ⟨h, hi⟩; exact (mem_slot _ _).mpr ((mem_piece _ _).mp hi).1
  · intro hi
    have h0 := (mem_slot _ _).mp hi
    exact ⟨(pieceAt i).2, (mem_piece _ _).mpr ⟨h0, rfl⟩⟩

theorem slot_pieces_disjoint (s : Fin 28) (h h' : Fin 4) (hh : h ≠ h') : Disjoint (pieceSet (s, h)) (pieceSet (s, h')) :=
  piece_disjoint _ _ fun e => hh (congrArg Prod.snd e)

/-! ## A copy -/

/-- Where an index of a piece is in the buffer. -/
theorem piece_emb (p : Piece) (x : S32x2048.Idx) : (pieceM p).view.emb x
    = ix3 (n0 := 28) (n1 := 128) (n2 := 2048) p.1 ⟨32 * p.2.val + (x (0 : Fin 2)).val, by
        have h1 : (x (0 : Fin 2)).val < 32 := (x (0 : Fin 2)).isLt
        have := p.2.isLt; omega⟩ (x (1 : Fin 2)) := by
  have ex : x = ix2 (n0 := 32) (n1 := 2048) (x (0 : Fin 2)) (x (1 : Fin 2)) := eq_ix2 (n0 := 32) (n1 := 2048) x
  have e := reshapeEquiv_ix2_1ab (a := 32) (b := 2048) squeezes_S1x32x2048_S32x2048.numel_eq (x (0 : Fin 2)) (x (1 : Fin 2))
  refine (congrArg (fun y => (Rect.unit (s := S28x128x2048) ![p.1.val, 32 * p.2.val, 0] S1x32x2048.size (piece_inb p)).emb
    (Shape.reshapeEquiv (s := S1x32x2048) (s' := S32x2048) squeezes_S1x32x2048_S32x2048.numel_eq y)) ex).trans ?_
  refine (congrArg (Rect.unit (s := S28x128x2048) ![p.1.val, 32 * p.2.val, 0] S1x32x2048.size (piece_inb p)).emb e).trans ?_
  funext a
  apply Fin.ext
  rw [Rect.emb_apply]
  match a with
  | ⟨0, _⟩ => show p.1.val + 1 * 0 = p.1.val; omega
  | ⟨1, _⟩ => show 32 * p.2.val + 1 * (x (0 : Fin 2)).val = 32 * p.2.val + (x (0 : Fin 2)).val; omega
  | ⟨2, _⟩ => show 0 + 1 * (x (1 : Fin 2)).val = (x (1 : Fin 2)).val; omega

omit [FloatOps F] in
/-- A copy leaves on the piece it lands on what the receiver's buffer is to hold there. -/
theorem landed (X : Dev nD → XC F) (c : Dev nD) (k : Copy) (hs : snd c k = true) (fd : CC F) :
    ∀ i ∈ pieceSet (land k), (pieceM (land k)).view.write (Elt F) fd ((pieceM (src k)).view.read (Elt F) (commOf X c)) Finset.univ i
      = commOf X (nbr c (dir k)) i := by
  intro i hi
  obtain ⟨x, -, rfl⟩ := Finset.mem_map.mp hi
  refine (View.write_emb_of_mem (v := (pieceM (land k)).view) (Val := Elt F) fd _ (Finset.mem_univ x)).trans ?_
  show commOf X c ((pieceM (src k)).view.emb x) = commOf X (nbr c (dir k)) ((pieceM (land k)).view.emb x)
  rw [piece_emb, piece_emb]
  show X (origin c (src k).1) _ = X (origin (nbr c (dir k)) (land k).1) _
  rw [origin_land c k hs]
  rfl

/-! ## Loads and stores -/

omit [FloatOps F] in
/-- A load of a slot reads the block it holds. -/
theorem read_slot (X : Dev nD → XC F) (c : Dev nD) (s : Fin 28) :
    cM.view.readAt (Elt F) (slotR s).toLoadRect (commOf X c) = slotVec (X (origin c s)) := by
  funext j
  have e : (slotR s).emb j = ix3 (n0 := 28) (n1 := 128) (n2 := 2048) s (j (1 : Fin 3)) (j (2 : Fin 3)) := by
    funext a
    apply Fin.ext
    rw [Rect.emb_apply]
    have h0 : (j (0 : Fin 3)).val < 1 := (j (0 : Fin 3)).isLt
    match a with
    | ⟨0, _⟩ => show s.val + 1 * (j (0 : Fin 3)).val = s.val; omega
    | ⟨1, _⟩ => show 0 + 1 * (j (1 : Fin 3)).val = (j (1 : Fin 3)).val; omega
    | ⟨2, _⟩ => show 0 + 1 * (j (2 : Fin 3)).val = (j (2 : Fin 3)).val; omega
  show commOf X c ((slotR s).emb j) = _
  rw [e]
  rfl

theorem pay1_apply (v : XC F) (j : S1x128x2048.Idx) :
    k0_pay1 (F := F) v j = v (ix2 (n0 := 128) (n1 := 2048) (j (1 : Fin 3)) (j (2 : Fin 3))) := by
  unfold k0_pay1
  rw [shapeCast_self]
  refine (shapeCast_addUnit_apply ![128, 2048] v _ j).trans (congrArg v ?_)
  funext a
  match a with | ⟨0, _⟩ => rfl | ⟨1, _⟩ => rfl

theorem pay2_eq (w : WC F) : k0_pay2 (F := F) w = w := by
  unfold k0_pay2
  simp only [shapeCast_self]

/-- The store of the device's own block fills slot 0 as it is to be. -/
theorem write_slot0 (X : Dev nD → XC F) (c : Dev nD) (f : CC F) :
    ∀ i ∈ slotSet 0, (cM.access (slotR 0)).write (Elt F) f (k0_pay1 (X c)) Finset.univ i = commOf X c i := by
  intro i hi
  have h0 : @Eq (Fin 28) (i (0 : Fin 3)) 0 := Fin.ext ((mem_slot _ _).mp hi)
  have h1 : origin c (i (0 : Fin 3)) = c := (congrArg (origin c) h0).trans (origin_zero c)
  have e1 : commOf X c i = X c (ix2 (n0 := 128) (n1 := 2048) (i (1 : Fin 3)) (i (2 : Fin 3))) :=
    congrArg (fun o => X o (ix2 (n0 := 128) (n1 := 2048) (i (1 : Fin 3)) (i (2 : Fin 3)))) h1
  rw [e1]
  have e : (cM.access (slotR 0)).set = slotSet 0 := View.set_slice_whole cc0_scratch0 _
  rw [← e] at hi
  obtain ⟨j, -, rfl⟩ := Finset.mem_map.mp hi
  have h := View.write_emb_of_mem (Val := Elt F) (v := cM.access (slotR 0)) f (k0_pay1 (X c)) (M := Finset.univ) (x := j) (Finset.mem_univ j)
  refine h.trans ?_
  show k0_pay1 (X c) j = _
  rw [pay1_apply]
  refine congrArg (X c) ?_
  funext a
  match a with
  | ⟨0, _⟩ => exact Fin.ext (by show (j (1 : Fin 3)).val = 0 + 1 * (j (1 : Fin 3)).val; omega)
  | ⟨1, _⟩ => exact Fin.ext (by show (j (2 : Fin 3)).val = 0 + 1 * (j (2 : Fin 3)).val; omega)

omit [FloatOps F] in
theorem off_zero : (![0, 0] : Fin 2 → Nat) = fun _ => 0 := funext fun a => by fin_cases a <;> rfl

omit [FloatOps F] in
theorem read_x (f : XC F) : xM.view.readAt (Elt F) allX.toLoadRect f = f := Memref.readAt_unit_zero (Elt F) cc0_stg0_0 off_zero _ f
omit [FloatOps F] in
theorem read_w (f : WC F) : wM.view.readAt (Elt F) allW.toLoadRect f = f := Memref.readAt_unit_zero (Elt F) cc0_stg1_0 off_zero _ f
omit [FloatOps F] in
theorem read_b (f : WC F) : bM.view.readAt (Elt F) allW.toLoadRect f = f := Memref.readAt_unit_zero (Elt F) cc0_scratch1 off_zero _ f
omit [FloatOps F] in
theorem write_b (f w : WC F) : (bM.access allW).write (Elt F) f w Finset.univ = w :=
  Memref.write_access_unit_zero_univ (Elt F) cc0_scratch1 off_zero _ f w

/-- The rows of the result that belong to device `o`. -/
abbrev rowsR (o : Dev nD) : Rect S2048x128 := Rect.unit (s := S2048x128) ![128 * o.val, 0] S128x128.size (rows_inb o)

theorem mem_rows (o : Dev nD) (i : S2048x128.Idx) : i ∈ (rowsR o).set ↔ rowDev i = o := by
  rw [Rect.mem_set_unit]
  constructor
  · intro h
    have h0 : 128 * o.val ≤ (i (0 : Fin 2)).val ∧ (i (0 : Fin 2)).val < 128 * o.val + 128 := h (0 : Fin 2)
    exact Fin.ext (show (i (0 : Fin 2)).val / 128 = o.val by omega)
  · rintro rfl a
    have h1 : (i (1 : Fin 2)).val < 128 := (i (1 : Fin 2)).isLt
    match a with
    | ⟨0, _⟩ => show 128 * ((i (0 : Fin 2)).val / 128) ≤ (i (0 : Fin 2)).val ∧ (i (0 : Fin 2)).val < 128 * ((i (0 : Fin 2)).val / 128) + 128; omega
    | ⟨1, _⟩ => show 0 ≤ (i (1 : Fin 2)).val ∧ (i (1 : Fin 2)).val < 0 + 128; omega

/-- The store of one product leaves the result right at its own rows, -/
theorem write_rows_mem (X : Dev nD → XC F) (w : WC F) (o : Dev nD) (f : OC F) (i : S2048x128.Idx) (hi : rowDev i = o) :
    (oM.access (rowsR o)).write (Elt F) f (gemmVal (slotVec (X o)) w) Finset.univ i = outOf X w i := by
  have e1 : outOf X w i = gemmVal (slotVec (X o)) w
      (ix2 (n0 := 128) (n1 := 128) ⟨(i (0 : Fin 2)).val % 128, Nat.mod_lt _ (by decide)⟩ (i (1 : Fin 2))) := by
    unfold outOf; rw [hi]
  rw [e1]
  have hm : i ∈ (oM.access (rowsR o)).set := by
    have e : (oM.access (rowsR o)).set = (rowsR o).set := View.set_slice_whole cc0_stg2_0 _
    rw [e]; exact (mem_rows o i).mpr hi
  obtain ⟨j, -, rfl⟩ := Finset.mem_map.mp hm
  have h := View.write_emb_of_mem (Val := Elt F) (v := oM.access (rowsR o)) f (gemmVal (slotVec (X o)) w) (M := Finset.univ) (x := j) (Finset.mem_univ j)
  refine h.trans ?_
  show gemmVal (slotVec (X o)) w j = _
  refine congrArg (gemmVal (slotVec (X o)) w) ?_
  have h0 : (j (0 : Fin 2)).val < 128 := (j (0 : Fin 2)).isLt
  funext a
  match a with
  | ⟨0, _⟩ => exact Fin.ext (by show (j (0 : Fin 2)).val = (128 * o.val + 1 * (j (0 : Fin 2)).val) % 128; omega)
  | ⟨1, _⟩ => exact Fin.ext (by show (j (1 : Fin 2)).val = 0 + 1 * (j (1 : Fin 2)).val; omega)

omit [FloatOps F] in
/-- and the other rows as they were. -/
theorem write_rows_ne (o : Dev nD) (f : OC F) (u : FVec F S128x128 .f32) (i : S2048x128.Idx) (hi : rowDev i ≠ o) :
    (oM.access (rowsR o)).write (Elt F) f u Finset.univ i = f i := by
  refine View.write_of_not_mem (v := oM.access (rowsR o)) (Val := Elt F) f u Finset.univ fun hm => hi ((mem_rows o i).mp ?_)
  have e : (oM.access (rowsR o)).set = (rowsR o).set := View.set_slice_whole cc0_stg2_0 _
  rw [← e]; exact hm

end Cert.KernelIdeal.Gather

end

end
-- ==== Proof.State.lean ====
/- How far a device is in its actions: the copies it has started, waited for and drained, the products stored.
   Each action is allowed only at a state that has what the action needs; the whole list is allowed from the
   start, checked once for all devices (the order of the actions does not depend on the device). -/
module

public import proofs.«01_k».proof.Proof.Sched

@[expose] public section

namespace Cert.KernelIdeal.Gather

open Cert.KernelIdeal Cert.KernelIdeal.Gen
open Idealize.ShloMosaic Idealize.SL.Sem

/-- The progress of a device. Copies are started, and drained, in the order `pos`. -/
structure St where
  /-- how many starts are past -/
  n : ℕ
  /-- how many drains are past -/
  m : ℕ
  /-- the copies waited for -/
  w : List Copy
  /-- the slots whose product is stored -/
  g : List (Fin 28)
  /-- whether the buffer of `w`'s block is filled -/
  wi : Bool

/-- The pieces that hold their contents: slot 0 from the start, the others once waited for. -/
def arrived (w : List Copy) (p : Piece) : Prop := p.1 = 0 ∨ p ∈ w.map land

instance (w : List Copy) (p : Piece) : Decidable (arrived w p) := by unfold arrived; infer_instance

/-- What an action needs. -/
def okStep (σ : St) : Act → Prop
  | .start k => pos k = σ.n ∧ σ.m ≤ σ.n ∧ arrived σ.w (src k)
  | .wait k => k ∉ σ.w ∧ pos k < σ.n ∧ ∀ k' : Copy, src k' = land k → σ.n ≤ pos k'
  | .drain k => pos k = σ.m ∧ σ.n = 108 ∧ arrived σ.w (src k)
  | .gemm s => σ.wi = true ∧ ∀ h : Fin 4, arrived σ.w (s, h)
  | .initW => True

/-- The state after an action. -/
def step (σ : St) : Act → St
  | .start _ => { σ with n := σ.n + 1 }
  | .wait k => { σ with w := k :: σ.w }
  | .drain _ => { σ with m := σ.m + 1 }
  | .gemm s => { σ with g := s :: σ.g }
  | .initW => { σ with wi := true }

/-- Everything is done. -/
def final (σ : St) : Prop := σ.n = 108 ∧ σ.m = 108 ∧ (∀ k : Copy, k ∈ σ.w) ∧ (∀ s : Fin 28, s ∈ σ.g) ∧ σ.wi = true

instance (σ : St) (a : Act) : Decidable (okStep σ a) := by cases a <;> unfold okStep <;> infer_instance
instance (σ : St) : Decidable (final σ) := by unfold final; infer_instance

/-- The list of actions is allowed from the state, and ends with everything done. -/
def Ok (σ : St) : List Act → Prop
  | [] => final σ
  | a :: L => okStep σ a ∧ Ok (step σ a) L

instance decOk : ∀ (L : List Act) (σ : St), Decidable (Ok σ L)
  | [], σ => inferInstanceAs (Decidable (final σ))
  | a :: L, σ => @instDecidableAnd _ _ (inferInstanceAs (Decidable (okStep σ a))) (decOk L (step σ a))

/-- The state a device starts its actions in. -/
def σ₀ : St := ⟨0, 0, [], [], false⟩

theorem acts_ok : Ok σ₀ acts := by decide +kernel

end Cert.KernelIdeal.Gather

end
-- ==== Proof.Protocol.lean ====
/- The cells of the kernel and what passes through them. Each device has a barrier cell, and for every copy a
   send cell and a receive cell. A neighbour's signal hands over that neighbour's landing pieces; a landing
   hands over the piece with its contents; a read-out hands back the share of the source it was lent. -/
module

public import proofs.«01_k».proof.Proof.Pieces
public import proofs.«01_k».proof.Proof.State
public import proofs.«01_k».proof.Proof.Gen.KernelIdeal.Launch
public import Idealize.ShloMosaic.Lib.Pipeline.Launch
public import Idealize.ShloMosaic.Lib.ShareLeaves
public import Idealize.ShloMosaic.Lib.Ring
public import Idealize.ShloMosaic.Lib.Tactic

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's copy, and this kernel's, with four duty names. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A copy's send (`false`) or receive (`true`) semaphore. -/
def osem (x : Bool × Copy) : SemLoc sig := if x.1 = true then .dma (recvSem x.2) else .dma (sendSem x.2)

/-- The cells of one device: the barrier's, and the copies'. -/
abbrev CI := Option (Bool × Copy)

def csem : CI → SemLoc sig
  | none => .reg barSem
  | some x => osem x

theorem osem_inj : Function.Injective osem := by
  rintro ⟨b, k⟩ ⟨b', k'⟩ h
  cases b <;> cases b'
  · have h' : SemLoc.dma (sendSem k) = SemLoc.dma (sendSem k') := h
    rw [sendSem_inj k k' (SemLoc.dma.inj h')]
  · have h' : SemLoc.dma (sendSem k) = SemLoc.dma (recvSem k') := h
    exact absurd (SemLoc.dma.inj h').symm (recv_ne_send k' k)
  · have h' : SemLoc.dma (recvSem k) = SemLoc.dma (sendSem k') := h
    exact absurd (SemLoc.dma.inj h') (recv_ne_send k k')
  · have h' : SemLoc.dma (recvSem k) = SemLoc.dma (recvSem k') := h
    rw [recvSem_inj k k' (SemLoc.dma.inj h')]

theorem osem_ne_bar (x : Bool × Copy) : osem x ≠ .reg barSem := by
  rcases x with ⟨b, k⟩; cases b <;> exact fun h => by cases h

theorem csem_inj : Function.Injective csem := by
  rintro (_ | x) (_ | x') h
  · rfl
  · exact absurd h.symm (osem_ne_bar x')
  · exact absurd h (osem_ne_bar x)
  · exact congrArg some (osem_inj h)

/-- Which cell of the kernel a semaphore is, if any. -/
def kind (sm : SemLoc sig) : Option CI := Function.partialInv csem sm

theorem kind_csem (i : CI) : kind (csem i) = some i := Function.partialInv_left csem_inj i

abbrev kcell (ci : Dev nD × CI) : GSem nD τ sig := ((ci.1 : Thread nD τ), csem ci.2)
abbrev barC (c : Dev nD) : GSem nD τ sig := ((c : Thread nD τ), .reg barSem)
abbrev sendC (c : Dev nD) (k : Copy) : GSem nD τ sig := ((c : Thread nD τ), .dma (sendSem k))
abbrev recvC (c : Dev nD) (k : Copy) : GSem nD τ sig := ((c : Thread nD τ), .dma (recvSem k))

theorem kind_bar : kind (.reg barSem) = some none := kind_csem none
theorem kind_send (k : Copy) : kind (.dma (sendSem k)) = some (some (false, k)) := kind_csem (some (false, k))
theorem kind_recv (k : Copy) : kind (.dma (recvSem k)) = some (some (true, k)) := kind_csem (some (true, k))

/-- The credit of one piece. -/
abbrev N : ℕ := (pieceM ((0 : Fin 28), (0 : Fin 4))).view.dmaCredit
theorem N_pos : 0 < N := View.dmaCredit_pos _ (by decide)

/-! ## The pieces as resources -/

/-- A share of a piece of device `c`'s gather buffer. -/
def pc (c : Dev nD) (p : Piece) (q : PosShare TreeShare) (f : CC F) : sProp 𝕄 :=
  ((c : Thread nD τ).loc cc0_scratch0) ↦[pieceSet p]{q} f

omit [FloatOps F] in
instance pc_storable (c : Dev nD) (p : Piece) (q) (f) : BI.Storable (upEmb : UEmb _ 𝕄) (pc (F := F) c p q f) := by
  unfold pc; infer_instance

/-- A piece whole, at any contents. -/
def pcAny (c : Dev nD) (p : Piece) : sProp 𝕄 := iprop(∃ f : CC F, pc c p fullShare f)

omit [FloatOps F] in
instance pcAny_storable (c : Dev nD) (p : Piece) : BI.Storable (upEmb : UEmb _ 𝕄) (pcAny (F := F) c p) := by
  unfold pcAny; infer_instance

/-- The share of a source lent to the copy in direction `d`. -/
abbrev lend (d : Fin 4) : PosShare TreeShare := ShareLeaves.leaf 2 fullShare.right d

variable (X : Dev nD → XC F)

/-! ## The schedule -/

/-- What the signal of the neighbour in direction `d` hands over: its landing pieces of the copies sent that way. -/
def payBar (c : Dev nD) (d : Fin 4) : sProp 𝕄 :=
  bigSep Finset.univ fun k : Copy => if dir k = d ∧ snd c k = true then pcAny (F := F) (nbr c (dir k)) (land k) else iprop(emp)

def dutiesAt (c : Dev nD) : CI → Finset (Fin 4)
  | none => Finset.univ.filter fun d => has c d = true
  | some (false, k) => if snd c k = true then {0} else ∅
  | some (true, k) => if act c k = true then {0} else ∅

def amountAt : CI → ℕ
  | none => 1
  | some _ => N

def payAt (c : Dev nD) (d : Fin 4) : CI → sProp 𝕄
  | none => payBar c d
  | some (false, k) => pc c (src k) (lend (dir k)) (commOf X c)
  | some (true, k) => pc c (land k) fullShare (commOf X c)

instance payAt_storable (c : Dev nD) (d : Fin 4) (i : CI) : BI.Storable (upEmb : UEmb _ 𝕄) (payAt X c d i) := by
  rcases i with _ | ⟨_ | _, k⟩ <;> unfold payAt
  · unfold payBar
    have : ∀ k : Copy, BI.Storable (upEmb : UEmb _ 𝕄) (if dir k = d ∧ snd c k = true then pcAny (F := F) (nbr c (dir k)) (land k) else iprop(emp)) :=
      fun k => by split <;> infer_instance
    infer_instance
  · infer_instance
  · infer_instance

/-- Everything happens at round 0. -/
def Rd : Rounds.Schedule (GSem nD τ sig) (Fin 4) 𝕄 where
  duties g r := if r = 0 ∧ g.1.2 = .tc then (kind g.2).elim ∅ (dutiesAt g.1.1) else ∅
  unitless _ := False
  amount g _ _ := (kind g.2).elim 1 amountAt
  payload g _ d := (kind g.2).elim iprop(emp) (payAt X g.1.1 d)
  amount_pos g _ _ _ := by
    rcases kind g.2 with _ | _ | _
    · exact Nat.one_pos
    · exact Nat.one_pos
    · exact N_pos

instance Rd_storable (g : GSem nD τ sig) (r : ℕ) (d : Fin 4) : BI.Storable (upEmb : UEmb _ 𝕄) ((Rd X).payload g r d) := by
  show BI.Storable upEmb ((kind g.2).elim iprop(emp) (payAt X g.1.1 d))
  rcases kind g.2 with _ | i
  · show BI.Storable upEmb iprop(emp); infer_instance
  · show BI.Storable upEmb (payAt X g.1.1 d i); infer_instance

section Sched
variable (c : Dev nD) (i : CI) (k : Copy)

theorem duties_k : (Rd X).duties (kcell (c, i)) 0 = dutiesAt c i := by
  refine (if_pos ⟨rfl, rfl⟩ : (if 0 = 0 ∧ (kcell (c, i)).1.2 = .tc then (kind (csem i)).elim ∅ (dutiesAt c) else ∅) = _).trans ?_
  rw [kind_csem]; rfl
theorem duties_later (g : GSem nD τ sig) : ∀ r, 1 ≤ r → (Rd X).duties g r = ∅ :=
  fun r hr => if_neg fun h => by omega
theorem amount_k (r : ℕ) (d : Fin 4) : (Rd X).amount (kcell (c, i)) r d = amountAt i := by
  show (kind (csem i)).elim 1 amountAt = _
  rw [kind_csem]; rfl
theorem payload_k (r : ℕ) (d : Fin 4) : (Rd X).payload (kcell (c, i)) r d = payAt X c d i := by
  show (kind (csem i)).elim iprop(emp) (payAt X c d) = _
  rw [kind_csem]; rfl

theorem duties_bar : (Rd X).duties (barC c) 0 = Finset.univ.filter fun d => has c d = true := duties_k X c none
theorem duties_send (h : snd c k = true) : (Rd X).duties (sendC c k) 0 = {0} :=
  (duties_k X c (some (false, k))).trans (if_pos h)
theorem duties_recv (h : act c k = true) : (Rd X).duties (recvC c k) 0 = {0} :=
  (duties_k X c (some (true, k))).trans (if_pos h)
theorem duties_none (i : CI) (h : dutiesAt c i = ∅) : ∀ r, 0 ≤ r → (Rd X).duties (kcell (c, i)) r = ∅ := by
  intro r _
  rcases Nat.eq_zero_or_pos r with rfl | hr
  · rw [duties_k, h]
  · exact duties_later X _ r hr
theorem amount_bar (d : Fin 4) : (Rd X).amount (barC c) 0 d = 1 := amount_k X c none 0 d
theorem amount_send (d : Fin 4) : (Rd X).amount (sendC c k) 0 d = N := amount_k X c (some (false, k)) 0 d
theorem amount_recv (d : Fin 4) : (Rd X).amount (recvC c k) 0 d = N := amount_k X c (some (true, k)) 0 d
theorem payload_bar (d : Fin 4) : (Rd X).payload (barC c) 0 d = payBar c d := payload_k X c none 0 d
theorem payload_send (d : Fin 4) : (Rd X).payload (sendC c k) 0 d = pc c (src k) (lend (dir k)) (commOf X c) :=
  payload_k X c (some (false, k)) 0 d
theorem payload_recv (d : Fin 4) : (Rd X).payload (recvC c k) 0 d = pc c (land k) fullShare (commOf X c) :=
  payload_k X c (some (true, k)) 0 d

theorem expect_bar : (Rd X).expect (barC c) 0 = (Finset.univ.filter fun d => has c d = true).card := by
  unfold Schedule.expect Schedule.amountOf
  rw [duties_bar, Finset.sum_congr rfl fun d _ => amount_bar X c d, Finset.sum_const, smul_eq_mul, Nat.mul_one]
theorem expect_send (h : snd c k = true) : (Rd X).expect (sendC c k) 0 = N := by
  unfold Schedule.expect Schedule.amountOf; rw [duties_send X c k h, Finset.sum_singleton, amount_send]
theorem expect_recv (h : act c k = true) : (Rd X).expect (recvC c k) 0 = N := by
  unfold Schedule.expect Schedule.amountOf; rw [duties_recv X c k h, Finset.sum_singleton, amount_recv]

theorem rest_send (h : snd c k = true) :
    bigSep ((Rd X).duties (sendC c k) 0 \ ∅) (fun d => (Rd X).payload (sendC c k) 0 d) = pc c (src k) (lend (dir k)) (commOf X c) := by
  rw [Finset.sdiff_empty, duties_send X c k h, bigSep_singleton, payload_send]
theorem rest_recv (h : act c k = true) :
    bigSep ((Rd X).duties (recvC c k) 0 \ ∅) (fun d => (Rd X).payload (recvC c k) 0 d) = pc c (land k) fullShare (commOf X c) := by
  rw [Finset.sdiff_empty, duties_recv X c k h, bigSep_singleton, payload_recv]

end Sched

/-! ## What each device owes; the levels -/

/-- The landings device `c` still owes when `n` starts are past. -/
def owedR (c : Dev nD) (n : ℕ) : CellTallies nD τ sig Unit :=
  ∑ k : Copy, if snd c k = true ∧ n ≤ pos k then tallyAt (recvC (nbr c (dir k)) k) () N else 0

/-- The signal device `c` owes the neighbour in direction `d`. -/
def OB (c : Dev nD) (d : Fin 4) : CellTallies nD τ sig Unit :=
  if has c d = true then tallyAt (barC (nbr c d)) () 1 else 0

/-- What device `c` owes at launch, in the order of its signals. -/
def O₀ (c : Dev nD) : CellTallies nD τ sig Unit := owedR c 0 + OB c 1 + OB c 0 + OB c 2 + OB c 3

def L (g : GSem nD τ sig) : Finset Unit := if g.1.2 = .tc then {()} else ∅

def lvAt : CI → ℕ
  | none => 1
  | some (false, _) => 0
  | some (true, k) => 2 + pos k

/-- Barrier cells at 1, receive cells in the order of the starts above it, everything else at 0. -/
def lv (g : GSem nD τ sig) (_ : Unit) : ℕ := (kind g.2).elim 0 lvAt

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (i : CI) (u : Unit) : lv (kcell (c, i)) u = lvAt i := by
  show (kind (csem i)).elim 0 lvAt = _
  rw [kind_csem]; rfl
theorem lv_recv (c : Dev nD) (k : Copy) (u : Unit) : lv (recvC c k) u = 2 + pos k := lv_k c (some (true, k)) u
theorem lv_bar (c : Dev nD) (u : Unit) : lv (barC c) u = 1 := lv_k c none u

theorem owedR_pos {c : Dev nD} {n : ℕ} {g : GSem nD τ sig} {u : Unit} (h : 0 < owedR c n g u) :
    ∃ k : Copy, n ≤ pos k ∧ g = recvC (nbr c (dir k)) k := by
  unfold owedR at h
  rw [Finset.sum_apply, Finsupp.finset_sum_apply] at h
  obtain ⟨k, -, hk⟩ := Finset.exists_ne_zero_of_sum_ne_zero (Nat.pos_iff_ne_zero.mp h)
  by_cases hc : snd c k = true ∧ n ≤ pos k
  · refine ⟨k, hc.2, ?_⟩
    rw [if_pos hc, tallyAt_apply] at hk
    by_contra hn
    exact hk (if_neg fun e => hn e.1)
  · rw [if_neg hc] at hk; exact absurd rfl hk

theorem OB_pos {c : Dev nD} {d : Fin 4} {g : GSem nD τ sig} {u : Unit} (h : 0 < OB c d g u) : g = barC (nbr c d) := by
  unfold OB at h
  split at h
  · rw [tallyAt_apply] at h
    by_contra hn
    rw [if_neg fun e => hn e.1] at h
    exact Nat.lt_irrefl 0 h
  · exact absurd h (Nat.lt_irrefl 0)

theorem owedR_all (c : Dev nD) : owedR c 108 = 0 :=
  Finset.sum_eq_zero fun k _ => if_neg fun h => absurd h.2 (by have := pos_lt k; omega)

/-- A start of a copy pays its landing. -/
theorem owedR_snd (c : Dev nD) (k : Copy) (h : snd c k = true) :
    owedR c (pos k) = owedR c (pos k + 1) + tallyAt (recvC (nbr c (dir k)) k) () N := by
  unfold owedR
  rw [← Finset.add_sum_erase _ _ (Finset.mem_univ k), ← Finset.add_sum_erase (a := k) _ (fun k' => if snd c k' = true ∧ pos k + 1 ≤ pos k' then _ else _) (Finset.mem_univ k),
    if_pos ⟨h, le_rfl⟩, if_neg (fun e => by omega), zero_add, add_comm]
  refine congrArg (· + _) (Finset.sum_congr rfl fun k' hk' => ?_)
  have hne : pos k ≠ pos k' := fun e => (Finset.mem_erase.mp hk').1 (pos_inj _ _ e).symm
  by_cases hs : snd c k' = true ∧ pos k ≤ pos k'
  · rw [if_pos hs, if_pos ⟨hs.1, by omega⟩]
  · rw [if_neg hs, if_neg fun e => hs ⟨e.1, by omega⟩]

theorem owedR_not (c : Dev nD) (k : Copy) (h : ¬ snd c k = true) : owedR c (pos k + 1) = owedR c (pos k) := by
  refine Finset.sum_congr rfl fun k' _ => ?_
  by_cases hs : snd c k' = true ∧ pos k ≤ pos k'
  · have hne : pos k ≠ pos k' := fun e => h (pos_inj _ _ e ▸ hs.1)
    rw [if_pos hs, if_pos ⟨hs.1, by omega⟩]
  · rw [if_neg hs, if_neg fun e => hs ⟨e.1, by omega⟩]

/-- The level facts. -/
@[irreducible] def Lev : sProp 𝕄 := levAts L lv

omit [FloatOps F] in
instance Lev_persistent : BI.Persistent (Lev (F := F)) := by unfold Lev; infer_instance

omit [FloatOps F] in
/-- A wait for a copy started before is below everything still owed. -/
theorem mayWait_recv (c : Dev nD) (k : Copy) (n : ℕ) (h : pos k < n) :
    Lev (F := F) ⊢ MayWait (c : Thread nD τ) (.dma (recvSem k)) () (owedR c n) := by
  unfold Lev
  exact MayOwe.of_cut (L := L) (lev := lv) (2 + pos k) (fun p hp => by rw [Finset.mem_singleton.mp hp, L_tc]; exact Finset.mem_singleton_self _)
    (fun g u hg => by obtain ⟨k', -, rfl⟩ := owedR_pos hg; exact Finset.mem_singleton_self _)
    (fun p hp => by rw [Finset.mem_singleton.mp hp]; exact le_of_eq (lv_recv c k ()))
    (fun g u hg => by obtain ⟨k', hk', rfl⟩ := owedR_pos hg; rw [lv_recv]; omega)

omit [FloatOps F] in
/-- A wait at the barrier is below the landings. -/
theorem mayWait_bar (c : Dev nD) (n : ℕ) :
    Lev (F := F) ⊢ MayOwe (c : Thread nD τ) {(.reg barSem, ())} (owedR c n) := by
  unfold Lev
  exact MayOwe.of_cut (L := L) (lev := lv) 1 (fun p hp => by rw [Finset.mem_singleton.mp hp, L_tc]; exact Finset.mem_singleton_self _)
    (fun g u hg => by obtain ⟨k', -, rfl⟩ := owedR_pos hg; exact Finset.mem_singleton_self _)
    (fun p hp => by rw [Finset.mem_singleton.mp hp]; exact le_of_eq (lv_bar c ()))
    (fun g u hg => by obtain ⟨k', hk', rfl⟩ := owedR_pos hg; rw [lv_recv]; omega)

theorem O₀_pos {c : Dev nD} {g : GSem nD τ sig} {u : Unit} (h : 0 < O₀ c g u) :
    (∃ k : Copy, g = recvC (nbr c (dir k)) k) ∨ ∃ d, g = barC (nbr c d) := by
  unfold O₀ at h
  simp only [Pi.add_apply, Finsupp.add_apply] at h
  by_cases h0 : 0 < owedR c 0 g u
  · obtain ⟨k, -, e⟩ := owedR_pos h0; exact .inl ⟨k, e⟩
  by_cases h1 : 0 < OB c 1 g u
  · exact .inr ⟨_, OB_pos h1⟩
  by_cases h2 : 0 < OB c 0 g u
  · exact .inr ⟨_, OB_pos h2⟩
  by_cases h3 : 0 < OB c 2 g u
  · exact .inr ⟨_, OB_pos h3⟩
  by_cases h4 : 0 < OB c 3 g u
  · exact .inr ⟨_, OB_pos h4⟩
  refine absurd h (Nat.not_lt.mpr (Nat.le_of_eq ?_))
  rw [Nat.eq_zero_of_not_pos h0, Nat.eq_zero_of_not_pos h1, Nat.eq_zero_of_not_pos h2, Nat.eq_zero_of_not_pos h3, Nat.eq_zero_of_not_pos h4]

omit [FloatOps F] in
/-- The pipeline's own waits are below everything. -/
theorem mayWait_stage (c : Dev nD) (q : DmaSem sig) (hq : lv ((c : Thread nD τ), .dma q) () = 0) (O : CellTallies nD τ sig Unit) (hO : O = O₀ c ∨ O = 0) :
    Lev (F := F) ⊢ MayWait (c : Thread nD τ) (.dma q) () O := by
  unfold Lev
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨d, rfl⟩ <;> exact Finset.mem_singleton_self _)
      (fun p hp => by rw [Finset.mem_singleton.mp hp]; exact le_of_eq hq)
      (fun g u hg => by
        rcases O₀_pos hg with ⟨k, rfl⟩ | ⟨d, rfl⟩
        · rw [lv_recv]; omega
        · rw [lv_bar]; exact Nat.one_pos)
  · rw [MayWait_zero]; iintro -; iempintro

end Cert.KernelIdeal.Gather

end

end
-- ==== Proof.Steps.lean ====
/- What a device holds at each point of its actions, and that every action takes what it holds at one state to what
   it holds at the next. -/
module

public import proofs.«01_k».proof.Proof.Protocol

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → XC F) (w : Dev nD → WC F)

/-! ## What every device knows -/

/-- The invariants of all cells, that each is past its opening, and the levels. -/
def Rec (K : Dev nD × CI → ℕ) : sProp 𝕄 :=
  iprop((bigSep Finset.univ fun ci : Dev nD × CI => cellInv ER (Rd X) (K ci) (kcell ci))
    ∗ (bigSep Finset.univ fun ci : Dev nD × CI => reached ER (kcell ci) 0) ∗ Lev (F := F))

instance Rec_persistent (K : Dev nD × CI → ℕ) : BI.Persistent (Rec X K) := by unfold Rec; infer_instance

omit [FloatOps F] in
/-- One member of a family held together. -/
theorem bigSep_take {I : Type} [DecidableEq I] {s : Finset I} {i : I} (h : i ∈ s) {Φ : I → sProp 𝕄} : bigSep s Φ ⊢ Φ i := bigSep_elim h

section
variable (K : Dev nD × CI → ℕ) (ci : Dev nD × CI)

theorem rec_inv : Rec X K ⊢ cellInv ER (Rd X) (K ci) (kcell ci) := by
  unfold Rec
  iintro ⟨H, -, -⟩
  iapply (bigSep_take (Φ := fun ci : Dev nD × CI => cellInv ER (Rd X) (K ci) (kcell ci)) (Finset.mem_univ ci)); iexact H

theorem rec_reached : Rec X K ⊢ reached ER (kcell ci) 0 := by
  unfold Rec
  iintro ⟨-, H, -⟩
  iapply (bigSep_take (Φ := fun ci : Dev nD × CI => (reached ER (kcell ci) 0 : sProp 𝕄)) (Finset.mem_univ ci)); iexact H

theorem rec_lev : Rec X K ⊢ Lev (F := F) := by
  unfold Rec
  iintro ⟨-, -, H⟩; iexact H

end

/-! ## What a device holds -/

/-- Copy `k` on the sending side when `n` starts and `m` drains are past. -/
def OUT (c : Dev nD) (n m : ℕ) (k : Copy) : sProp 𝕄 :=
  if snd c k = true then
    if pos k < m then atPos ER (sendC c k) 1 ∅ 0
    else if pos k < n then iprop(atPos ER (sendC c k) 0 ∅ 0 ∗ cred (tallyAt (sendC c k) () N))
    else iprop(atPos ER (sendC c k) 0 ∅ 0 ∗ dutyTok ER (sendC c k) 0 (0 : Fin 4)
      ∗ dutyTok ER (recvC (nbr c (dir k)) k) 0 (0 : Fin 4) ∗ pcAny (F := F) (nbr c (dir k)) (land k))
  else atPos ER (sendC c k) 0 ∅ 0

/-- Copy `k` on the receiving side. -/
def RC (c : Dev nD) (wt : List Copy) (k : Copy) : sProp 𝕄 :=
  if act c k = true then
    if k ∈ wt then atPos ER (recvC c k) 1 ∅ 0
    else iprop(atPos ER (recvC c k) 0 ∅ 0 ∗ cred (tallyAt (recvC c k) () N))
  else atPos ER (recvC c k) 0 ∅ 0

/-- Whether the share of piece `p` for direction `d` is out. -/
def lent (c : Dev nD) (n m : ℕ) (p : Piece) (d : Fin 4) : Prop :=
  ∃ k : Copy, src k = p ∧ dir k = d ∧ snd c k = true ∧ pos k < n ∧ m ≤ pos k

instance (c : Dev nD) (n m : ℕ) (p : Piece) (d : Fin 4) : Decidable (lent c n m p d) := by unfold lent; infer_instance

/-- The share of piece `p` for direction `d`, unless it is out. -/
def lf (c : Dev nD) (n m : ℕ) (p : Piece) (d : Fin 4) : sProp 𝕄 :=
  if lent c n m p d then iprop(emp) else pc c p (lend d) (commOf X c)

/-- A piece that has its contents: half of it to read from, and a share for each direction. -/
def full (c : Dev nD) (n m : ℕ) (p : Piece) : sProp 𝕄 :=
  iprop(pc c p fullShare.left (commOf X c) ∗ bigSep Finset.univ (lf X c n m p))

def PC (c : Dev nD) (n m : ℕ) (wt : List Copy) (p : Piece) : sProp 𝕄 :=
  if holds c p.1 = true then if arrived wt p then full X c n m p else iprop(emp)
  else pcAny (F := F) c p

/-- The rows stored so far are right. -/
def outOk (c : Dev nD) (g : List (Fin 28)) (f : OC F) : Prop :=
  ∀ s ∈ g, holds c s = true → ∀ i, rowDev i = origin c s → f i = outOf X (w c) i

def outB (c : Dev nD) (g : List (Fin 28)) : sProp 𝕄 :=
  iprop(∃ f : OC F, ⌜outOk X w c g f⌝ ∗ (((c : Thread nD τ).loc cc0_stg2_0) ↦{fullShare} f))

def wB (c : Dev nD) (wi : Bool) : sProp 𝕄 :=
  iprop(∃ f : WC F, ⌜wi = true → f = w c⌝ ∗ (((c : Thread nD τ).loc cc0_scratch1) ↦{fullShare} f))

/-- What device `c` holds at a state of its actions. -/
def Inv (c : Dev nD) (σ : St) : sProp 𝕄 :=
  iprop((∃ W, owes (c : Thread nD τ) (owedR c σ.n) W)
    ∗ bigSep Finset.univ (OUT c σ.n σ.m) ∗ bigSep Finset.univ (RC c σ.w) ∗ bigSep Finset.univ (PC X c σ.n σ.m σ.w)
    ∗ outB X w c σ.g ∗ (((c : Thread nD τ).loc cc0_stg1_0) ↦{fullShare} w c) ∗ wB w c σ.wi)

/-! ## Starting a copy -/

/-- The rule for a copy, addressed to `dev`. -/
theorem wp_start (K : Dev nD × CI → ℕ) (c dev : Dev nD) (k : Copy) (hdev : dev = nbr c (dir k)) (hs : snd c k = true) (fd : CC F)
    {hsc : (pieceM (land k) : Memref sig (Dev.tc dev : Thread nD τ).2.kind .vmem S32x2048 .bf16).view.ref.isScScratch = false}
    {hsrc : (pieceM (src k)).view.WordExact} {hdst : (pieceM (land k)).view.WordExact}
    {hsem : DmaTarget.Typed .vmem (.dma (recvSem k)) (.remote (Dev.tc dev : Thread nD τ) (pieceM (land k)) (.dma (sendSem k)) hsc)}
    {α : Type} {Q : α → sProp 𝕄} {kk : PUnit → Prog (TpuEff nD τ sig (Elt F) Λ₀ .tc) α}
    (O : CellTallies nD τ sig Unit) (W : Waits sig Unit) :
    iprop(cellInv ER (Rd X) (K (c, some (false, k))) (sendC c k) ∗ cellInv ER (Rd X) (K (nbr c (dir k), some (true, k))) (recvC (nbr c (dir k)) k)
        ∗ pc c (src k) (lend (dir k)) (commOf X c) ∗ pc (nbr c (dir k)) (land k) fullShare fd
        ∗ owes (c : Thread nD τ) (O + tallyAt (recvC (nbr c (dir k)) k) () N) W
        ∗ dutyTok ER (sendC c k) 0 (0 : Fin 4) ∗ reached ER (sendC c k) 0
        ∗ dutyTok ER (recvC (nbr c (dir k)) k) 0 (0 : Fin 4) ∗ reached ER (recvC (nbr c (dir k)) k) 0)
      ⊢ iprop(((cred (tallyAt (sendC c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (pieceM (src k)) (.remote (Dev.tc dev : Thread nD τ) (pieceM (land k)) (.dma (sendSem k)) hsc) (.dma (recvSem k)) hsrc hdst hsem) kk) Q) := by
  subst hdev
  have hact : act (nbr c (dir k)) k = true := hs
  have h1 : (0 : Fin 4) ∈ (Rd X).duties (sendC c k) 0 := by rw [duties_send X c k hs]; exact Finset.mem_singleton_self _
  have h2 : (0 : Fin 4) ∈ (Rd X).duties (recvC (nbr c (dir k)) k) 0 := by rw [duties_recv X _ k hact]; exact Finset.mem_singleton_self _
  have h3 : ((pieceM (src k)).view.loc (c : Thread nD τ) ↦[(pieceM (src k)).view.set]{lend (dir k)} commOf X c) ⊢ (Rd X).payload (sendC c k) 0 (0 : Fin 4) := by
    rw [payload_send]; exact BI.Entails.refl _
  have h4 : ((pieceM (land k)).view.loc (nbr c (dir k) : Thread nD τ) ↦[(pieceM (land k)).view.set]{fullShare} ((pieceM (land k)).view.write (Elt F) fd ((pieceM (src k)).view.read (Elt F) (commOf X c)) Finset.univ)) ⊢ (Rd X).payload (recvC (nbr c (dir k)) k) 0 (0 : Fin 4) := by
    rw [payload_recv]; exact Entails.of_eq (pointsTo_congr (landed X c k hs fd))
  unfold pc
  have hr : τ.routes (c : Thread nD τ) (nbr c (dir k) : Thread nD τ) = true := by routes
  have h5 : (pieceM (land k)).view.amount (.dma (recvSem k)) = N := rfl
  exact Rounds.wp_send_pointsTo 𝒱₀ ER (Rd X) (c : Thread nD τ) none (c' := (nbr c (dir k) : Thread nD τ)) (src := pieceM (src k)) (dst := pieceM (land k)) (sS := .dma (sendSem k)) (sem := .dma (recvSem k)) (q := lend (dir k)) (fs := commOf X c) (κ₁ := K (c, some (false, k))) (κ₂ := K (nbr c (dir k), some (true, k)))
    (r₁ := 0) (r₂ := 0) (d₁ := (0 : Fin 4)) (d₂ := (0 : Fin 4)) (fd := fd)
    h1 h2
    () () N h5 (amount_send X c k 0) (amount_recv X _ k 0) O rfl (W := W) h3 h4 (hr := hr)

theorem lent_src {c : Dev nD} {k : Copy} {n n' m m' : ℕ} {p : Piece} {d : Fin 4} (h : ¬ (p = src k ∧ d = dir k))
    (hn : ∀ k', k' ≠ k → (pos k' < n' ↔ pos k' < n)) (hm : ∀ k', k' ≠ k → (m' ≤ pos k' ↔ m ≤ pos k')) :
    lent c n' m' p d ↔ lent c n m p d := by
  refine exists_congr fun k' => ?_
  constructor
  · rintro ⟨h1, h2, h3, h4, h5⟩
    have hne : k' ≠ k := fun e => h ⟨by rw [← h1, e], by rw [← h2, e]⟩
    exact ⟨h1, h2, h3, (hn k' hne).mp h4, (hm k' hne).mp h5⟩
  · rintro ⟨h1, h2, h3, h4, h5⟩
    have hne : k' ≠ k := fun e => h ⟨by rw [← h1, e], by rw [← h2, e]⟩
    exact ⟨h1, h2, h3, (hn k' hne).mpr h4, (hm k' hne).mpr h5⟩

/-- Past a copy, the shares of pieces other than its source stand as they were, and at the source those of other directions. -/
theorem lf_other {c : Dev nD} {k : Copy} {n n' m m' : ℕ} {p : Piece} {d : Fin 4} (h : ¬ (p = src k ∧ d = dir k))
    (hn : ∀ k', k' ≠ k → (pos k' < n' ↔ pos k' < n)) (hm : ∀ k', k' ≠ k → (m' ≤ pos k' ↔ m ≤ pos k')) :
    lf X c n' m' p d = lf X c n m p d := by
  unfold lf
  simp only [lent_src h hn hm]

theorem PC_other {c : Dev nD} {k : Copy} {n n' m m' : ℕ} {wt : List Copy} {p : Piece} (h : p ≠ src k)
    (hn : ∀ k', k' ≠ k → (pos k' < n' ↔ pos k' < n)) (hm : ∀ k', k' ≠ k → (m' ≤ pos k' ↔ m ≤ pos k')) :
    PC X c n' m' wt p = PC X c n m wt p := by
  have e : lf X c n' m' p = lf X c n m p := funext fun d => lf_other X (fun e => h e.1) hn hm
  unfold PC full
  rw [e]

theorem PC_not {c : Dev nD} {k : Copy} {n n' m m' : ℕ} {wt : List Copy} (hs : ¬ snd c k = true)
    (hn : ∀ k', k' ≠ k → (pos k' < n' ↔ pos k' < n)) (hm : ∀ k', k' ≠ k → (m' ≤ pos k' ↔ m ≤ pos k')) :
    PC X c n' m' wt = PC X c n m wt := by
  have hl : ∀ p d, lent c n' m' p d ↔ lent c n m p d := by
    intro p d
    refine exists_congr fun k' => ?_
    constructor
    · rintro ⟨h1, h2, h3, h4, h5⟩
      have hne : k' ≠ k := fun e => hs (e ▸ h3)
      exact ⟨h1, h2, h3, (hn k' hne).mp h4, (hm k' hne).mp h5⟩
    · rintro ⟨h1, h2, h3, h4, h5⟩
      have hne : k' ≠ k := fun e => hs (e ▸ h3)
      exact ⟨h1, h2, h3, (hn k' hne).mpr h4, (hm k' hne).mpr h5⟩
  funext p
  unfold PC full lf
  simp only [hl]

/-- The source's share for the copy, taken out of what is held and put back as the state moves on. -/
theorem PC_at {c : Dev nD} {k : Copy} {n n' m m' : ℕ} {wt : List Copy} (hs : snd c k = true) (ha : arrived wt (src k))
    (hn : ∀ k', k' ≠ k → (pos k' < n' ↔ pos k' < n)) (hm : ∀ k', k' ≠ k → (m' ≤ pos k' ↔ m ≤ pos k')) :
    bigSep Finset.univ (PC X c n m wt)
      ⊢ iprop(lf X c n m (src k) (dir k) ∗ (lf X c n' m' (src k) (dir k) -∗ bigSep Finset.univ (PC X c n' m' wt))) := by
  have hh := snd_src c k hs
  refine (bigSep_univ_update (Ψ := PC X c n' m' wt) (src k) (fun p hp => PC_other X hp hn hm)).trans ?_
  have e : ∀ n m, PC X c n m wt (src k) = full X c n m (src k) := fun n m => (if_pos hh).trans (if_pos ha)
  rw [e, e]
  unfold full
  have hu := bigSep_univ_update (Φ := lf X c n m (src k)) (Ψ := lf X c n' m' (src k)) (dir k)
    (fun d hd => lf_other X (k := k) (fun e => hd e.2) hn hm)
  iintro ⟨⟨Hl, Hd⟩, Hk⟩
  ihave Hd := hu $$ Hd
  icases Hd with ⟨H1, H2⟩
  isplitl [H1]; · iexact H1
  iintro H1
  iapply Hk
  isplitl [Hl]; · iexact Hl
  iapply H2; iexact H1

theorem OUT_other {c : Dev nD} {k : Copy} {n n' m m' : ℕ} {k' : Copy} (h : k' ≠ k)
    (hn : ∀ k', k' ≠ k → (pos k' < n' ↔ pos k' < n)) (hm : ∀ k', k' ≠ k → (m' ≤ pos k' ↔ m ≤ pos k')) :
    OUT (F := F) c n' m' k' = OUT c n m k' := by
  have h1 := hn k' h
  have h2 : pos k' < m' ↔ pos k' < m := by have := hm k' h; omega
  unfold OUT
  simp only [h1, h2]

theorem OUT_not {c : Dev nD} {k : Copy} {n n' m m' : ℕ} (hs : ¬ snd c k = true)
    (hn : ∀ k', k' ≠ k → (pos k' < n' ↔ pos k' < n)) (hm : ∀ k', k' ≠ k → (m' ≤ pos k' ↔ m ≤ pos k')) :
    OUT (F := F) c n' m' = OUT c n m := by
  funext k'
  by_cases h : k' = k
  · subst h; unfold OUT; rw [if_neg hs, if_neg hs]
  · exact OUT_other h hn hm

theorem next_n (k k' : Copy) (h : k' ≠ k) : pos k' < pos k + 1 ↔ pos k' < pos k := by
  have : pos k' ≠ pos k := fun e => h (pos_inj _ _ e)
  omega

theorem next_m (k k' : Copy) (h : k' ≠ k) : pos k + 1 ≤ pos k' ↔ pos k ≤ pos k' := by
  have : pos k' ≠ pos k := fun e => h (pos_inj _ _ e)
  omega

section Act
variable (K : Dev nD × CI → ℕ) (c : Dev nD)

set_option maxRecDepth 4000 in
set_option maxHeartbeats 800000 in
theorem step_start {B : P F PUnit.{1}} {Q : PUnit.{1} → sProp 𝕄} (σ : St) (k : Copy) (h : okStep σ (.start k)) :
    iprop(Rec X K ∗ Inv X w c σ ∗ (Inv X w c (step σ (.start k)) -∗ wp frame (wpE (defs₀ (F := F)) 𝒱₀ (c : Thread nD τ) none) Set.univ B Q))
      ⊢ wp frame (wpE (defs₀ (F := F)) 𝒱₀ (c : Thread nD τ) none) Set.univ (actProg c (.start k) >>= fun _ => B) Q := by
  obtain ⟨n, m, wt, g, wi⟩ := σ
  obtain ⟨h1, h2, h3⟩ := h
  dsimp only at h1 h2 h3
  subst h1
  unfold Inv
  dsimp only [step, actProg]
  by_cases hs : snd c k = true
  · rw [if_pos hs]
    unfold startOp
    simp only [Prog.lift, Prog.bind_op, Prog.bind_ret]
    iintro ⟨#HR, ⟨⟨%W, HO⟩, Hout, Hrc, Hpc, Hrest⟩, Hk⟩
    ihave Hout := (bigSep_univ_update (Φ := OUT c (pos k) m) (Ψ := OUT c (pos k + 1) m) k (fun k' hk' => OUT_other hk' (next_n k) (fun _ _ => Iff.rfl))) $$ Hout
    icases Hout with ⟨Ho, HoutC⟩
    ihave Hpc := (PC_at X (n' := pos k + 1) (m' := m) hs h3 (next_n k) (fun _ _ => Iff.rfl)) $$ Hpc
    icases Hpc with ⟨Hp, HpcC⟩
    have e1 : OUT (F := F) c (pos k) m k = iprop(atPos ER (sendC c k) 0 ∅ 0 ∗ dutyTok ER (sendC c k) 0 (0 : Fin 4)
        ∗ dutyTok ER (recvC (nbr c (dir k)) k) 0 (0 : Fin 4) ∗ pcAny (F := F) (nbr c (dir k)) (land k)) := by
      unfold OUT; rw [if_pos hs, if_neg (by omega), if_neg (by omega)]
    have e2 : OUT (F := F) c (pos k + 1) m k = iprop(atPos ER (sendC c k) 0 ∅ 0 ∗ cred (tallyAt (sendC c k) () N)) := by
      unfold OUT; rw [if_pos hs, if_neg (by omega), if_pos (by omega)]
    have e3 : lf X c (pos k) m (src k) (dir k) = pc c (src k) (lend (dir k)) (commOf X c) := by
      unfold lf; rw [if_neg]
      rintro ⟨k', a1, a2, a3, a4, a5⟩
      rw [src_dir_inj k' k a1 a2] at a4; omega
    have e4 : lf X c (pos k + 1) m (src k) (dir k) = iprop(emp) := by
      unfold lf; rw [if_pos]
      exact ⟨k, rfl, rfl, hs, by omega, by omega⟩
    ihave Ho := (Entails.of_eq e1) $$ Ho
    ihave Hp := (Entails.of_eq e3) $$ Hp
    unfold pcAny
    icases Ho with ⟨Hat, Ht1, Ht2, ⟨%fd, Hd⟩⟩
    ihave #I1 := (rec_inv X K (c, some (false, k))) $$ HR
    ihave #I2 := (rec_inv X K (nbr c (dir k), some (true, k))) $$ HR
    ihave #R1 := (rec_reached X K (c, some (false, k))) $$ HR
    ihave #R2 := (rec_reached X K (nbr c (dir k), some (true, k))) $$ HR
    ihave HO := (Entails.of_eq (congrArg (fun O => (owes (c : Thread nD τ) O W : sProp 𝕄)) (owedR_snd c k hs))) $$ HO
    iapply (wp_start X K c _ k rfl hs fd (owedR c (pos k + 1)) W) $$ [Hp Hd HO Ht1 Ht2]
    · isplitr; · iexact I1
      isplitr; · iexact I2
      isplitl [Hp]; · iexact Hp
      isplitl [Hd]; · iexact Hd
      isplitl [HO]; · iexact HO
      isplitl [Ht1]; · iexact Ht1
      isplitr; · iexact R1
      isplitl [Ht2]; · iexact Ht2
      iexact R2
    iintro ⟨HcS, HO⟩
    iapply Hk
    isplitl [HO]; · iexists W; iexact HO
    isplitl [Hat HcS HoutC]
    · iapply HoutC
      iapply (Entails.of_eq e2.symm)
      isplitl [Hat]; · iexact Hat
      iexact HcS
    isplitl [Hrc]; · iexact Hrc
    isplitl [HpcC]
    · iapply HpcC
      iapply (Entails.of_eq e4.symm)
      iempintro
    iexact Hrest
  · rw [if_neg hs, OUT_not (n := pos k) (n' := pos k + 1) (m := m) (m' := m) hs (next_n k) (fun _ _ => Iff.rfl),
      PC_not X (n := pos k) (n' := pos k + 1) (m := m) (m' := m) hs (next_n k) (fun _ _ => Iff.rfl), owedR_not c k hs]
    show _ ⊢ wp _ _ _ B Q
    iintro ⟨-, Hi, Hk⟩
    iapply Hk; iexact Hi

set_option maxRecDepth 4000 in
set_option maxHeartbeats 800000 in
theorem step_drain {B : P F PUnit.{1}} {Q : PUnit.{1} → sProp 𝕄} (σ : St) (k : Copy) (h : okStep σ (.drain k)) :
    iprop(Rec X K ∗ Inv X w c σ ∗ (Inv X w c (step σ (.drain k)) -∗ wp frame (wpE (defs₀ (F := F)) 𝒱₀ (c : Thread nD τ) none) Set.univ B Q))
      ⊢ wp frame (wpE (defs₀ (F := F)) 𝒱₀ (c : Thread nD τ) none) Set.univ (actProg c (.drain k) >>= fun _ => B) Q := by
  obtain ⟨n, m, wt, g, wi⟩ := σ
  obtain ⟨h1, h2, h3⟩ := h
  dsimp only at h1 h2 h3
  subst h1; subst h2
  unfold Inv
  dsimp only [step, actProg]
  by_cases hs : snd c k = true
  · rw [if_pos hs]
    unfold drainOp
    simp only [Prog.lift, Prog.bind_op, Prog.bind_ret]
    have hlt := pos_lt k
    iintro ⟨#HR, ⟨⟨%W, HO⟩, Hout, Hrc, Hpc, Hrest⟩, Hk⟩
    ihave Hout := (bigSep_univ_update (Φ := OUT c 108 (pos k)) (Ψ := OUT c 108 (pos k + 1)) k (fun k' hk' => OUT_other hk' (fun _ _ => Iff.rfl) (next_m k))) $$ Hout
    icases Hout with ⟨Ho, HoutC⟩
    ihave Hpc := (PC_at X (n' := 108) (m' := pos k + 1) hs h3 (fun _ _ => Iff.rfl) (next_m k)) $$ Hpc
    icases Hpc with ⟨-, HpcC⟩
    have e1 : OUT (F := F) c 108 (pos k) k = iprop(atPos ER (sendC c k) 0 ∅ 0 ∗ cred (tallyAt (sendC c k) () N)) := by
      unfold OUT; rw [if_pos hs, if_neg (by omega), if_pos (by omega)]
    have e2 : OUT (F := F) c 108 (pos k + 1) k = atPos ER (sendC c k) 1 ∅ 0 := by
      unfold OUT; rw [if_pos hs, if_pos (by omega)]
    have e4 : lf X c 108 (pos k + 1) (src k) (dir k) = pc c (src k) (lend (dir k)) (commOf X c) := by
      unfold lf; rw [if_neg]
      rintro ⟨k', a1, a2, a3, a4, a5⟩
      rw [src_dir_inj k' k a1 a2] at a5; omega
    ihave Ho := (Entails.of_eq e1) $$ Ho
    icases Ho with ⟨Hat, Hc⟩
    ihave #I1 := (rec_inv X K (c, some (false, k))) $$ HR
    rw [owedR_all]
    iapply (Rounds.wp_wait_rest_token 𝒱₀ ER (Rd X) (c : Thread nD τ) none (κ := K (c, some (false, k)))
        (wpE_waitDma2_eq 𝒱₀ (c : Thread nD τ) none Set.univ) (Set.mem_univ _) () (O := 0) (W := W) (R := 0) (m := 0) (T := ∅)
        (by rw [Nat.zero_add, expect_send X c k hs])) $$ [Hc HO Hat]
    · isplitr; · iexact I1
      isplitl [Hc]; · iexact Hc
      isplitl [HO]; · iexact HO
      isplitr; · rw [MayWait_zero]; iempintro
      iexact Hat
    iintro ⟨HO, Hat, -, Hpay⟩
    ihave Hp := (Entails.of_eq (rest_send X c k hs)) $$ Hpay
    iapply Hk
    isplitl [HO]; · iexists _; iexact HO
    isplitl [Hat HoutC]
    · iapply HoutC
      iapply (Entails.of_eq e2.symm)
      iexact Hat
    isplitl [Hrc]; · iexact Hrc
    isplitl [HpcC Hp]
    · iapply HpcC
      iapply (Entails.of_eq e4.symm)
      iexact Hp
    iexact Hrest
  · rw [if_neg hs, OUT_not (n := 108) (n' := 108) (m := pos k) (m' := pos k + 1) hs (fun _ _ => Iff.rfl) (next_m k),
      PC_not X (n := 108) (n' := 108) (m := pos k) (m' := pos k + 1) hs (fun _ _ => Iff.rfl) (next_m k)]
    show _ ⊢ wp _ _ _ B Q
    iintro ⟨-, Hi, Hk⟩
    iapply Hk; iexact Hi

/-! ## Waiting for a copy -/

theorem land_inj {k k' : Copy} (h : land k = land k') : k = k' := by
  obtain ⟨a, b⟩ := k; obtain ⟨a', b'⟩ := k'
  have h1 : a.succ = a'.succ := congrArg Prod.fst h
  have h2 : b = b' := congrArg Prod.snd h
  rw [Fin.succ_inj.mp h1, h2]

theorem arrived_cons {k : Copy} {wt : List Copy} {p : Piece} (h : p ≠ land k) : arrived (k :: wt) p ↔ arrived wt p := by
  unfold arrived
  rw [List.map_cons, List.mem_cons]
  exact or_congr_right ⟨fun e => e.resolve_left h, Or.inr⟩

theorem not_arrived {k : Copy} {wt : List Copy} (h : k ∉ wt) : ¬ arrived wt (land k) := by
  rintro (e | e)
  · exact Fin.succ_ne_zero _ e
  · obtain ⟨k', hk', e⟩ := List.mem_map.mp e
    exact h (land_inj e ▸ hk')

omit [FloatOps F] in
/-- A share is its four leaves. -/
theorem shares4 {ℓ : Loc nD τ sig} (I : Finset (Idx ℓ)) (f : Buf (Elt F) ℓ) (q : PosShare TreeShare) :
    (ℓ ↦[I]{q} f : sProp 𝕄) = bigSep Finset.univ fun d : Fin 4 => ℓ ↦[I]{ShareLeaves.leaf 2 q d} f :=
  ShareLeaves.pointsTo_leaves I f 2 q

omit [FloatOps F] in
/-- A whole is the half to read from and the four shares to lend. -/
theorem shares {ℓ : Loc nD τ sig} (I : Finset (Idx ℓ)) (f : Buf (Elt F) ℓ) :
    (ℓ ↦[I]{fullShare} f : sProp 𝕄)
      = iprop((ℓ ↦[I]{fullShare.left} f) ∗ bigSep Finset.univ fun d : Fin 4 => ℓ ↦[I]{lend d} f) := by
  rw [BI.Entails.antisymm (pointsTo_share (PosShare.mem_left_op_right fullShare)).1 (pointsTo_share (PosShare.mem_left_op_right fullShare)).2,
    shares4 I f fullShare.right]

/-- A whole piece is the half to read from and the four shares to lend. -/
theorem pc_shares (p : Piece) (f : CC F) :
    (pc c p fullShare f : sProp 𝕄) = iprop(pc c p fullShare.left f ∗ bigSep Finset.univ fun d : Fin 4 => pc c p (lend d) f) := by
  unfold pc
  exact shares _ _

theorem RC_other {wt : List Copy} {k k' : Copy} (h : k' ≠ k) : RC (F := F) c (k :: wt) k' = RC c wt k' := by
  have : (k' ∈ k :: wt) ↔ k' ∈ wt := by rw [List.mem_cons]; exact ⟨fun e => e.resolve_left h, Or.inr⟩
  unfold RC
  simp only [this]

theorem PC_wait_other {n m : ℕ} {wt : List Copy} {k : Copy} {p : Piece} (h : p ≠ land k) : PC X c n m (k :: wt) p = PC X c n m wt p := by
  unfold PC
  simp only [arrived_cons h]

set_option maxRecDepth 4000 in
set_option maxHeartbeats 800000 in
theorem step_wait {B : P F PUnit.{1}} {Q : PUnit.{1} → sProp 𝕄} (σ : St) (k : Copy) (h : okStep σ (.wait k)) :
    iprop(Rec X K ∗ Inv X w c σ ∗ (Inv X w c (step σ (.wait k)) -∗ wp frame (wpE (defs₀ (F := F)) 𝒱₀ (c : Thread nD τ) none) Set.univ B Q))
      ⊢ wp frame (wpE (defs₀ (F := F)) 𝒱₀ (c : Thread nD τ) none) Set.univ (actProg c (.wait k) >>= fun _ => B) Q := by
  obtain ⟨n, m, wt, g, wi⟩ := σ
  obtain ⟨h1, h2, h3⟩ := h
  dsimp only at h1 h2 h3
  unfold Inv
  dsimp only [step, actProg]
  by_cases hs : act c k = true
  · rw [if_pos hs]
    unfold waitOp
    simp only [Prog.lift, Prog.bind_op, Prog.bind_ret]
    iintro ⟨#HR, ⟨⟨%W, HO⟩, Hout, Hrc, Hpc, Hrest⟩, Hk⟩
    ihave Hrc := (bigSep_univ_update (Φ := RC c wt) (Ψ := RC c (k :: wt)) k (fun k' hk' => RC_other c hk')) $$ Hrc
    icases Hrc with ⟨Hr, HrcC⟩
    ihave Hpc := (bigSep_univ_update (Φ := PC X c n m wt) (Ψ := PC X c n m (k :: wt)) (land k) (fun p hp => PC_wait_other X c hp)) $$ Hpc
    icases Hpc with ⟨-, HpcC⟩
    have e1 : RC (F := F) c wt k = iprop(atPos ER (recvC c k) 0 ∅ 0 ∗ cred (tallyAt (recvC c k) () N)) := by
      unfold RC; rw [if_pos hs, if_neg h1]
    have e2 : RC (F := F) c (k :: wt) k = atPos ER (recvC c k) 1 ∅ 0 := by
      unfold RC; rw [if_pos hs, if_pos (List.mem_cons_self ..)]
    have e4 : PC X c n m (k :: wt) (land k) = pc c (land k) fullShare (commOf X c) := by
      have hl : ∀ d, ¬ lent c n m (land k) d := by
        rintro d ⟨k', a1, a2, a3, a4, a5⟩
        have := h3 k' a1; omega
      have hh : holds c (land k).1 = true := hs
      unfold PC full lf
      have ha : arrived (k :: wt) (land k) := Or.inr (List.mem_map_of_mem (List.mem_cons_self ..))
      rw [if_pos hh, if_pos ha, pc_shares]
      exact congrArg (fun R => iprop(_ ∗ R)) (bigSep_congr fun d _ => if_neg (hl d))
    ihave Hr := (Entails.of_eq e1) $$ Hr
    icases Hr with ⟨Hat, Hc⟩
    ihave #I1 := (rec_inv X K (c, some (true, k))) $$ HR
    have hmw : Rec X K ⊢ MayWait (c : Thread nD τ) (.dma (recvSem k)) () (owedR c n) := by
      have a := rec_lev (F := F) X K
      have b := mayWait_recv (F := F) c k n h2
      exact a.trans b
    iapply (Rounds.wp_wait_rest_token 𝒱₀ ER (Rd X) (c : Thread nD τ) none (κ := K (c, some (true, k)))
        (wpE_waitDma2_eq 𝒱₀ (c : Thread nD τ) none Set.univ) (Set.mem_univ _) () (O := owedR c n) (W := W) (R := 0) (m := 0) (T := ∅)
        (by rw [Nat.zero_add, expect_recv X c k hs])) $$ [Hc HO Hat]
    · isplitr; · iexact I1
      isplitl [Hc]; · iexact Hc
      isplitl [HO]; · iexact HO
      isplitr; · iapply hmw; iexact HR
      iexact Hat
    iintro ⟨HO, Hat, -, Hpay⟩
    ihave Hp := (Entails.of_eq (rest_recv X c k hs)) $$ Hpay
    iapply Hk
    isplitl [HO]; · iexists _; iexact HO
    isplitl [Hout]; · iexact Hout
    isplitl [Hat HrcC]
    · iapply HrcC
      iapply (Entails.of_eq e2.symm)
      iexact Hat
    isplitl [HpcC Hp]
    · iapply HpcC
      iapply (Entails.of_eq e4.symm)
      iexact Hp
    iexact Hrest
  · have e1 : RC (F := F) c (k :: wt) = RC c wt := by
      funext k'
      by_cases e : k' = k
      · subst e; unfold RC; rw [if_neg hs, if_neg hs]
      · exact RC_other c e
    have e2 : PC X c n m (k :: wt) = PC X c n m wt := by
      funext p
      by_cases e : p = land k
      · subst e
        have hh : ¬ holds c (land k).1 = true := hs
        unfold PC; rw [if_neg hh, if_neg hh]
      · exact PC_wait_other X c e
    rw [if_neg hs, e1, e2]
    show _ ⊢ wp _ _ _ B Q
    iintro ⟨-, Hi, Hk⟩
    iapply Hk; iexact Hi

/-! ## The products -/

/-- A load of a slot reads the slot's elements. -/
theorem cM_setOn (s : Fin 28) : cM.view.setOn (slotR s).toLoadRect.set ⊆ slotSet s := by
  intro i hi
  obtain ⟨j, hj, rfl⟩ := Finset.mem_map.mp hi
  exact hj

/-- A slot that has arrived, taken out to be read. -/
theorem slot_take {n m : ℕ} {wt : List Copy} {s : Fin 28} (hs : holds c s = true) (ha : ∀ h : Fin 4, arrived wt (s, h)) :
    bigSep Finset.univ (PC X c n m wt)
      ⊢ iprop((((c : Thread nD τ).loc cc0_scratch0) ↦[slotSet s]{fullShare.left} commOf X c)
        ∗ ((((c : Thread nD τ).loc cc0_scratch0) ↦[slotSet s]{fullShare.left} commOf X c) -∗ bigSep Finset.univ (PC X c n m wt))) := by
  have e : (bigSep Finset.univ fun h : Fin 4 => PC X c n m wt (s, h))
      = iprop((((c : Thread nD τ).loc cc0_scratch0) ↦[slotSet s]{fullShare.left} commOf X c)
        ∗ bigSep Finset.univ fun h : Fin 4 => bigSep Finset.univ (lf X c n m (s, h))) := by
    rw [Ring.pointsTo_sub_blocks (ℓ := (c : Thread nD τ).loc cc0_scratch0) (fun h : Fin 4 => pieceSet (s, h)) (slot_pieces_disjoint s) (slotSet s) (slot_cover s) (commOf X c),
      ← bigSep_sep']
    refine bigSep_congr fun h _ => ?_
    unfold PC
    rw [if_pos hs, if_pos (ha h)]
    rfl
  rw [bigSep_univ_prod (PC X c n m wt), bigSep_univ_at (fun s => bigSep Finset.univ fun h : Fin 4 => PC X c n m wt (s, h)) s, e]
  iintro ⟨⟨H1, H2⟩, H3⟩
  isplitl [H1]; · iexact H1
  iintro H1
  isplitl [H1 H2]
  · isplitl [H1]; · iexact H1
    iexact H2
  iexact H3

/-- A product stored at its rows keeps the rows stored before right, and makes these right. -/
theorem outOk_cons {g : List (Fin 28)} {s : Fin 28} {f : OC F} (h : outOk X w c g f) :
    outOk X w c (s :: g) ((oM.access (rowsR (origin c s))).write (Elt F) f (gemmVal (slotVec (X (origin c s))) (w c)) Finset.univ) := by
  intro s' hs' hh i hi
  by_cases e : rowDev i = origin c s
  · rw [write_rows_mem X (w c) _ f i e]
  · rw [write_rows_ne _ f _ i e]
    rcases List.mem_cons.mp hs' with rfl | hs'
    · exact absurd hi e
    · exact h s' hs' hh i hi

set_option maxRecDepth 4000 in
set_option maxHeartbeats 800000 in
theorem step_gemm {B : P F PUnit.{1}} {Q : PUnit.{1} → sProp 𝕄} (σ : St) (s : Fin 28) (h : okStep σ (.gemm s)) :
    iprop(Rec X K ∗ Inv X w c σ ∗ (Inv X w c (step σ (.gemm s)) -∗ wp frame (wpE (defs₀ (F := F)) 𝒱₀ (c : Thread nD τ) none) Set.univ B Q))
      ⊢ wp frame (wpE (defs₀ (F := F)) 𝒱₀ (c : Thread nD τ) none) Set.univ (actProg c (.gemm s) >>= fun _ => B) Q := by
  obtain ⟨n, m, wt, g, wi⟩ := σ
  obtain ⟨h1, h2⟩ := h
  dsimp only at h1 h2
  subst h1
  unfold Inv outB wB
  dsimp only [step, actProg]
  by_cases hs : holds c s = true
  · rw [if_pos hs]
    unfold gemmOp gemmThen
    simp only [Prog.lift, Prog.bind_op, Prog.bind_ret, Prog.pure_eq_ret]
    iintro ⟨-, ⟨HO, Hout, Hrc, Hpc, ⟨%f, %hf, Hf⟩, Hw, ⟨%b, %hb, Hb⟩⟩, Hk⟩
    obtain rfl := hb trivial
    ihave Hpc := (slot_take X c hs h2) $$ Hpc
    icases Hpc with ⟨Hs, HpcC⟩
    iapply (wp_load 𝒱₀ (c : Thread nD τ) none Set.univ (m := cM) (cM_setOn s)) $$ Hs; iintro Hs
    rw [read_slot]
    iapply (wp_load 𝒱₀ (c : Thread nD τ) none Set.univ (m := bM) (Finset.subset_univ _)) $$ Hb; iintro Hb
    rw [read_b]
    iapply (wp_load 𝒱₀ (c : Thread nD τ) none Set.univ (m := oM) (Finset.subset_univ _)) $$ Hf; iintro Hf
    iapply (wp_store 𝒱₀ (c : Thread nD τ) none Set.univ (m := oM) (r := rowsR (origin c s)) (Mk := Finset.univ) (Finset.subset_univ _)) $$ Hf; iintro Hf
    iapply Hk
    isplitl [HO]; · iexact HO
    isplitl [Hout]; · iexact Hout
    isplitl [Hrc]; · iexact Hrc
    isplitl [HpcC Hs]; · iapply HpcC; iexact Hs
    isplitl [Hf]
    · iexists _; isplitr; · (ipureintro; exact outOk_cons X w c hf)
      iexact Hf
    isplitl [Hw]; · iexact Hw
    iexists _; isplitr; · (ipureintro; exact fun _ => rfl)
    iexact Hb
  · rw [if_neg hs]
    show _ ⊢ wp _ _ _ B Q
    iintro ⟨-, ⟨HO, Hout, Hrc, Hpc, ⟨%f, %hf, Hf⟩, Hrest⟩, Hk⟩
    iapply Hk
    isplitl [HO]; · iexact HO
    isplitl [Hout]; · iexact Hout
    isplitl [Hrc]; · iexact Hrc
    isplitl [Hpc]; · iexact Hpc
    isplitl [Hf]
    · iexists f; isplitr
      · ipureintro
        intro s' hs' hh
        rcases List.mem_cons.mp hs' with rfl | hs'
        · exact absurd hh hs
        · exact hf s' hs' hh
      iexact Hf
    iexact Hrest

theorem step_initW {B : P F PUnit.{1}} {Q : PUnit.{1} → sProp 𝕄} (σ : St) :
    iprop(Rec X K ∗ Inv X w c σ ∗ (Inv X w c (step σ .initW) -∗ wp frame (wpE (defs₀ (F := F)) 𝒱₀ (c : Thread nD τ) none) Set.univ B Q))
      ⊢ wp frame (wpE (defs₀ (F := F)) 𝒱₀ (c : Thread nD τ) none) Set.univ (actProg c .initW >>= fun _ => B) Q := by
  unfold Inv wB
  dsimp only [step, actProg]
  unfold initWOp initWThen
  simp only [Prog.lift, Prog.bind_op, Prog.bind_ret, Prog.pure_eq_ret]
  iintro ⟨-, ⟨HO, Hout, Hrc, Hpc, Hf, Hw, ⟨%b, %hb, Hb⟩⟩, Hk⟩
  iapply (wp_load 𝒱₀ (c : Thread nD τ) none Set.univ (m := wM) (Finset.subset_univ _)) $$ Hw; iintro Hw
  rw [read_w]
  iapply (wp_load 𝒱₀ (c : Thread nD τ) none Set.univ (m := bM) (Finset.subset_univ _)) $$ Hb; iintro Hb
  iapply (wp_store 𝒱₀ (c : Thread nD τ) none Set.univ (m := bM) (r := allW) (Mk := Finset.univ) (Finset.subset_univ _)) $$ Hb; iintro Hb
  rw [write_b, pay2_eq]
  iapply Hk
  isplitl [HO]; · iexact HO
  isplitl [Hout]; · iexact Hout
  isplitl [Hrc]; · iexact Hrc
  isplitl [Hpc]; · iexact Hpc
  isplitl [Hf]; · iexact Hf
  isplitl [Hw]; · iexact Hw
  iexists _; isplitr; · (ipureintro; exact fun _ => rfl)
  iexact Hb

/-! ## The whole list -/

theorem step_act {B : P F PUnit.{1}} {Q : PUnit.{1} → sProp 𝕄} (σ : St) (a : Act) (h : okStep σ a) :
    iprop(Rec X K ∗ Inv X w c σ ∗ (Inv X w c (step σ a) -∗ wp frame (wpE (defs₀ (F := F)) 𝒱₀ (c : Thread nD τ) none) Set.univ B Q))
      ⊢ wp frame (wpE (defs₀ (F := F)) 𝒱₀ (c : Thread nD τ) none) Set.univ (actProg c a >>= fun _ => B) Q := by
  cases a with
  | start k => exact step_start X w K c σ k h
  | wait k => exact step_wait X w K c σ k h
  | drain k => exact step_drain X w K c σ k h
  | gemm s => exact step_gemm X w K c σ s h
  | initW => exact step_initW X w K c σ

/-- The actions, from a state they are allowed from, end in a state with everything done. -/
theorem run_acts {B : P F PUnit.{1}} {Q : PUnit.{1} → sProp 𝕄} (L : List Act) : ∀ σ : St, Ok σ L →
    iprop(Rec X K ∗ Inv X w c σ ∗ (∀ σ', (⌜final σ'⌝ ∗ Inv X w c σ') -∗ wp frame (wpE (defs₀ (F := F)) 𝒱₀ (c : Thread nD τ) none) Set.univ B Q))
      ⊢ wp frame (wpE (defs₀ (F := F)) 𝒱₀ (c : Thread nD τ) none) Set.univ (runActs c L B) Q := by
  induction L with
  | nil =>
    intro σ h
    show _ ⊢ wp _ _ _ B Q
    iintro ⟨-, Hi, Hk⟩
    iapply Hk $$ %σ
    isplitr; · (ipureintro; exact h)
    iexact Hi
  | cons a L ih =>
    intro σ h
    rw [runActs_cons]
    iintro ⟨#HR, Hi, Hk⟩
    iapply (step_act X w K c σ a h.1)
    isplitr; · iexact HR
    isplitl [Hi]; · iexact Hi
    iintro Hi
    iapply (ih (step σ a) h.2)
    isplitr; · iexact HR
    isplitl [Hi]; · iexact Hi
    iexact Hk

end Act

end Cert.KernelIdeal.Gather

end

end
-- ==== Proof.Open.lean ====
/- The opening of the body: the signals, each handing a neighbour the landing pieces it will write, the waits at the
   barrier that bring this device the neighbours' pieces, and the device's own block put in slot 0. -/
module

public import proofs.«01_k».proof.Proof.Steps

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → XC F) (w : Dev nD → WC F)

/-! ## Families over the pieces -/

omit [FloatOps F] in
theorem bigSep_fin_succ {n : ℕ} (Φ : Fin (n + 1) → sProp 𝕄) :
    bigSep Finset.univ Φ = iprop(Φ 0 ∗ bigSep Finset.univ fun i : Fin n => Φ i.succ) := by
  have e : (Finset.univ.erase (0 : Fin (n + 1))) = Finset.univ.map (Fin.succEmb n) := by
    ext i
    simp only [Finset.mem_erase, Finset.mem_univ, and_true, Finset.mem_map, true_and, Fin.coe_succEmb]
    exact ⟨fun h => ⟨i.pred h, Fin.succ_pred i h⟩, by rintro ⟨j, rfl⟩; exact Fin.succ_ne_zero j⟩
  rw [bigSep_univ_at Φ 0, e, bigSep_map]; rfl

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- The pieces are slot 0's and the landing pieces. -/
theorem bigSep_pieces (Φ : Piece → sProp 𝕄) :
    bigSep Finset.univ Φ = iprop((bigSep Finset.univ fun h : Fin 4 => Φ (0, h)) ∗ bigSep Finset.univ fun k : Copy => Φ (land k)) := by
  rw [bigSep_univ_prod Φ, bigSep_fin_succ (fun s : Fin 28 => bigSep Finset.univ fun h => Φ (s, h)),
    bigSep_univ_prod (fun k : Copy => Φ (land k))]; rfl

/-! ## What the body starts from -/

def sigToks (c : Dev nD) : sProp 𝕄 := bigSep Finset.univ fun e : Fin 4 => dutyTok ER (barC (nbr c e)) 0 (op e)
def copyToks (c : Dev nD) : sProp 𝕄 :=
  bigSep Finset.univ fun k : Copy => iprop(dutyTok ER (sendC c k) 0 (0 : Fin 4) ∗ dutyTok ER (recvC (nbr c (dir k)) k) 0 (0 : Fin 4))
def ats (c : Dev nD) : sProp 𝕄 :=
  iprop(atPos ER (barC c) 0 (∅ : Finset (Fin 4)) 0 ∗ (bigSep Finset.univ fun k : Copy => atPos ER (sendC c k) 0 (∅ : Finset (Fin 4)) 0)
    ∗ bigSep Finset.univ fun k : Copy => atPos ER (recvC c k) 0 (∅ : Finset (Fin 4)) 0)
def recvCreds (c : Dev nD) : sProp 𝕄 :=
  bigSep Finset.univ fun k : Copy => if act c k = true then cred (tallyAt (recvC c k) () N) else iprop(emp)

/-- The number of a device's neighbours. -/
def nHas (c : Dev nD) : ℕ := (Finset.univ.filter fun d => has c d = true).card
theorem nHas_eq : ∀ c : Dev nD, nHas c = 2 + (if has c 0 = true then 1 else 0) + (if has c 1 = true then 1 else 0) := by decide +kernel

/-- The landing pieces device `c` hands to its neighbour in direction `e`. -/
def give (c : Dev nD) (e : Fin 4) : sProp 𝕄 :=
  bigSep Finset.univ fun k : Copy => if op (dir k) = e ∧ act c k = true then pcAny (F := F) c (land k) else iprop(emp)

theorem op_eq (d e : Fin 4) : d = op e ↔ op d = e := by revert d e; decide

omit [FloatOps F] in
theorem payBar_give (c : Dev nD) (e : Fin 4) : payBar (F := F) (nbr c e) (op e) = give c e := by
  refine bigSep_congr fun k _ => ?_
  by_cases h : dir k = op e
  · have hn : nbr (nbr c e) (dir k) = c := by rw [h, nbr_op]
    have hs : snd (nbr c e) k = act c k := by unfold snd; rw [hn]
    rw [hn, hs]
    have h' := (op_eq _ _).mp h
    by_cases ha : act c k = true
    · rw [if_pos ⟨h, ha⟩, if_pos ⟨h', ha⟩]
    · rw [if_neg fun x => ha x.2, if_neg fun x => ha x.2]
  · rw [if_neg fun x => h x.1, if_neg fun x => h ((op_eq _ _).mpr x.1)]

/-- What the barrier brings: the pieces of the neighbours this device's copies land in. -/
def got (c : Dev nD) : sProp 𝕄 :=
  bigSep Finset.univ fun k : Copy => if snd c k = true then pcAny (F := F) (nbr c (dir k)) (land k) else iprop(emp)

omit [FloatOps F] in
theorem got_of_pay (c : Dev nD) :
    bigSep (Finset.univ.filter fun d => has c d = true) (fun d => payBar (F := F) c d) ⊢ got c := by
  have e : ∀ d, (if has c d = true then payBar (F := F) c d else iprop(emp)) = payBar c d := by
    intro d
    by_cases h : has c d = true
    · rw [if_pos h]
    · rw [if_neg h]
      have : payBar (F := F) c d = bigSep Finset.univ fun k : Copy => iprop(emp) :=
        bigSep_congr fun k _ => if_neg fun (x : dir k = d ∧ snd c k = true) => h (x.1 ▸ snd_has c k x.2)
      rw [this]; exact (bigSep_emp_const _).symm
  have e2 := bigSep_filter Finset.univ (fun d : Fin 4 => has c d = true) (fun d => payBar (F := F) c d)
  rw [e2]
  refine (Entails.of_eq ((bigSep_congr fun d _ => e d).trans (bigSep_univ_comm fun (d : Fin 4) (k : Copy) =>
    if dir k = d ∧ snd c k = true then pcAny (F := F) (nbr c (dir k)) (land k) else iprop(emp)))).trans ?_
  refine bigSep_mono fun k _ => ?_
  refine (bigSep_elim (Finset.mem_univ (dir k))).trans ?_
  by_cases h : snd c k = true
  · rw [if_pos ⟨rfl, h⟩, if_pos h]; exact BI.Entails.refl _
  · rw [if_neg fun x => h x.2, if_neg h]; exact BI.Entails.refl _

/-! ## The signals -/

section
variable (K : Dev nD × CI → ℕ) (c : Dev nD)

theorem step_sig {B : P F PUnit.{1}} {Q : PUnit.{1} → sProp 𝕄} (e : Fin 4) (O : CellTallies nD τ sig Unit) (W : Waits sig Unit) :
    iprop(Rec X K ∗ owes (c : Thread nD τ) (O + OB c e) W ∗ dutyTok ER (barC (nbr c e)) 0 (op e) ∗ give c e
        ∗ (owes (c : Thread nD τ) O W -∗ wp frame (wpE (defs₀ (F := F)) 𝒱₀ (c : Thread nD τ) none) Set.univ B Q))
      ⊢ wp frame (wpE (defs₀ (F := F)) 𝒱₀ (c : Thread nD τ) none) Set.univ (sigOp c e >>= fun _ => B) Q := by
  unfold sigOp OB
  by_cases h : has c e = true
  · rw [if_pos h, if_pos h]
    simp only [semSignalWord, Prog.lift, Prog.bind_op, Prog.bind_ret]
    iintro ⟨#HR, HO, Ht, Hg, Hk⟩
    ihave #I := (rec_inv X K (nbr c e, none)) $$ HR
    ihave #R := (rec_reached X K (nbr c e, none)) $$ HR
    iapply (Rounds.wp_signal 𝒱₀ ER (Rd X) (c : Thread nD τ) none (dst := (nbr c e : Thread nD τ)) (κ := K (nbr c e, none))
      (d := op e) (by rw [duties_bar]; exact Finset.mem_filter.mpr ⟨Finset.mem_univ _, (has_nbr c e).trans h⟩)
      ((amount_bar X (nbr c e) (op e)).trans (by decide)) () O rfl) $$ [HO Ht Hg]
    · isplitr; · iexact I
      isplitl [HO]; · iexact HO
      isplitl [Ht]; · iexact Ht
      isplitl [Hg]; · rw [payload_bar, payBar_give]; iexact Hg
      iexact R
    iexact Hk
  · rw [if_neg h, if_neg h, add_zero]
    show _ ⊢ wp _ _ _ B Q
    iintro ⟨-, HO, -, -, Hk⟩
    iapply Hk; iexact HO

/-! ## The waits at the barrier -/

/-- The barrier cell when `m` of its units are consumed: those of the duties `S`, and their payloads. -/
def BAR (m : ℕ) : sProp 𝕄 :=
  iprop(∃ S : Finset (Fin 4), ⌜S ⊆ Finset.univ.filter (fun d => has c d = true) ∧ m + ((Finset.univ.filter fun d => has c d = true) \ S).card ≤ nHas c⌝
    ∗ atPos ER (barC c) 0 S m ∗ bigSep S fun d => payBar (F := F) c d)

/-- One wait at the barrier, for any debt `O` it may wait under. -/
theorem step_bar {B : P F PUnit.{1}} {Q : PUnit.{1} → sProp 𝕄} (O : CellTallies nD τ sig Unit)
    (hO : Lev (F := F) ⊢ MayOwe (c : Thread nD τ) {(.reg barSem, ())} O) (m k' : ℕ) (v : BitVec 32) (hv : v.toInt = (k' : Int)) :
    iprop(Rec X K ∗ (∃ W, owes (c : Thread nD τ) O W) ∗ cred (tallyAt (barC c) () k') ∗ BAR (F := F) c m
        ∗ (((∃ W, owes (c : Thread nD τ) O W) ∗ BAR (F := F) c (m + k')) -∗ wp frame (wpE (defs₀ (F := F)) 𝒱₀ (c : Thread nD τ) none) Set.univ B Q))
      ⊢ wp frame (wpE (defs₀ (F := F)) 𝒱₀ (c : Thread nD τ) none) Set.univ (semWaitWord barSem v >>= fun _ => B) Q := by
  have hmw : Rec X K ⊢ MayOwe (c : Thread nD τ) {(.reg barSem, ())} O := (rec_lev (F := F) X K).trans hO
  have htot : Util.total (Finsupp.single () k') = k' := Util.total_single _ _
  have hsub : (Finsupp.single () k' : Unit →₀ ℕ).support.image (fun u => ((.reg barSem : SemLoc sig), u)) ⊆ {(.reg barSem, ())} := by
    intro x hx; obtain ⟨u, -, rfl⟩ := Finset.mem_image.mp hx; exact Finset.mem_singleton_self _
  simp only [semWaitWord, Prog.lift, Prog.bind_op, Prog.bind_ret]
  rw [hv]
  unfold BAR
  iintro ⟨#HR, ⟨%W, HO⟩, Hc, ⟨%T, %hT, Hat, Hpay⟩, Hk⟩
  ihave #I := (rec_inv X K (c, none)) $$ HR
  unfold tallyAt
  iapply (Rounds.wp_wait 𝒱₀ ER (Rd X) (c : Thread nD τ) none (κ := K (c, none)) (wpE_semWait_eq 𝒱₀ (c : Thread nD τ) none Set.univ) (Set.mem_univ _)
      (O := O) (W := W) {(.reg barSem, ())} (R := 0) (m := m) (T := T) (cr := Finsupp.single () k') htot hsub) $$ [Hc HO Hat]
  · isplitr; · iexact I
    isplitl [Hc]; · iexact Hc
    isplitl [HO]; · iexact HO
    isplitr; · iapply hmw; iexact HR
    iexact Hat
  iintro %S ⟨%hS, HO, Hat, Hp⟩
  iapply Hk
  isplitl [HO]; · iexists _; iexact HO
  rw [duties_bar, expect_bar] at hS
  iexists S
  isplitr; · (ipureintro; exact ⟨hS.2.1, hS.2.2⟩)
  isplitl [Hat]; · iexact Hat
  have e : (bigSep S fun d => payBar (F := F) c d) = iprop((bigSep T fun d => payBar (F := F) c d) ∗ bigSep (S \ T) fun d => payBar (F := F) c d) :=
    bigSep_sdiff_split (Φ := fun d => payBar (F := F) c d) hS.1
  rw [e]
  isplitl [Hpay]; · iexact Hpay
  iapply (Entails.of_eq (bigSep_congr (s := S \ T) fun d _ => (payload_bar X c d))); iexact Hp

theorem step_bar_if {B : P F PUnit.{1}} {Q : PUnit.{1} → sProp 𝕄} (O : CellTallies nD τ sig Unit)
    (hO : Lev (F := F) ⊢ MayOwe (c : Thread nD τ) {(.reg barSem, ())} O) (m : ℕ) (e : Fin 4) :
    iprop(Rec X K ∗ (∃ W, owes (c : Thread nD τ) O W) ∗ cred (tallyAt (barC c) () (if has c e = true then 1 else 0)) ∗ BAR (F := F) c m
        ∗ (((∃ W, owes (c : Thread nD τ) O W) ∗ BAR (F := F) c (m + if has c e = true then 1 else 0)) -∗ wp frame (wpE (defs₀ (F := F)) 𝒱₀ (c : Thread nD τ) none) Set.univ B Q))
      ⊢ wp frame (wpE (defs₀ (F := F)) 𝒱₀ (c : Thread nD τ) none) Set.univ (barOp c e >>= fun _ => B) Q := by
  unfold barOp
  by_cases h : has c e = true
  · simp only [if_pos h]
    exact step_bar X K c O hO m 1 1#32 rfl
  · simp only [if_neg h]
    show _ ⊢ wp _ _ _ B Q
    iintro ⟨-, HO, -, Hb, Hk⟩
    iapply Hk
    isplitl [HO]; · iexact HO
    iexact Hb

/-- All its units consumed, the barrier's round is over and everything it brings is here. -/
theorem bar_done :
    iprop(Rec X K ∗ BAR (F := F) c (nHas c)) ⊢ |={Set.univ}=> iprop(atPos ER (barC c) 1 (∅ : Finset (Fin 4)) 0 ∗ got (F := F) c) := by
  unfold BAR
  iintro ⟨#HR, ⟨%S, %hS, Hat, Hp⟩⟩
  ihave #I := (rec_inv X K (c, none)) $$ HR
  have hS0 : (Finset.univ.filter (fun d => has c d = true)) \ S = ∅ := Finset.card_eq_zero.mp (by omega)
  have hSe : S = Finset.univ.filter (fun d => has c d = true) := Finset.Subset.antisymm hS.1 (Finset.sdiff_eq_empty_iff_subset.mp hS0)
  imod (Rounds.fupd_skip ER (Rd X) (κ := K (c, none)) (g := barC c) (R := 0) (m := nHas c) (T := S) (Es := Set.univ)
    (by rw [duties_bar, hSe]) (by rw [expect_bar]; rfl) (Set.mem_univ _)) $$ [Hat] with ⟨Hat, -⟩
  · isplitr; · iexact I
    iexact Hat
  imodintro
  isplitl [Hat]; · iexact Hat
  rw [hSe]
  iapply (got_of_pay (F := F) c); iexact Hp

/-! ## The device's own block -/

theorem step_initX {B : P F PUnit.{1}} {Q : PUnit.{1} → sProp 𝕄} (f : CC F) :
    iprop((((c : Thread nD τ).loc cc0_stg0_0) ↦{fullShare} X c) ∗ (bigSep Finset.univ fun h : Fin 4 => pc c (0, h) fullShare f)
        ∗ (((((c : Thread nD τ).loc cc0_stg0_0) ↦{fullShare} X c) ∗ (bigSep Finset.univ fun h : Fin 4 => pc c (0, h) fullShare (commOf X c)))
            -∗ wp frame (wpE (defs₀ (F := F)) 𝒱₀ (c : Thread nD τ) none) Set.univ B Q))
      ⊢ wp frame (wpE (defs₀ (F := F)) 𝒱₀ (c : Thread nD τ) none) Set.univ (initXOp >>= fun _ => B) Q := by
  have e : ∀ f : CC F, (bigSep Finset.univ fun h : Fin 4 => pc c (0, h) fullShare f)
      = (((c : Thread nD τ).loc cc0_scratch0) ↦[slotSet 0]{fullShare} f : sProp 𝕄) := fun f =>
    (Ring.pointsTo_sub_blocks (ℓ := (c : Thread nD τ).loc cc0_scratch0) (fun h : Fin 4 => pieceSet (0, h)) (slot_pieces_disjoint 0) (slotSet 0) (slot_cover 0) f).symm
  rw [e, e]
  unfold initXOp initXThen
  simp only [Prog.lift, Prog.bind_op, Prog.bind_ret, Prog.pure_eq_ret]
  iintro ⟨Hx, Hs, Hk⟩
  iapply (wp_load 𝒱₀ (c : Thread nD τ) none Set.univ (m := xM) (Finset.subset_univ _)) $$ Hx; iintro Hx
  rw [read_x]
  iapply (wp_load 𝒱₀ (c : Thread nD τ) none Set.univ (m := cM) (cM_setOn 0)) $$ Hs; iintro Hs
  iapply (wp_store 𝒱₀ (c : Thread nD τ) none Set.univ (m := cM) (r := slotR 0) (Mk := Finset.univ)
    (show (cM.access (slotR 0)).set ⊆ slotSet 0 by rw [View.set_slice_whole])) $$ Hs; iintro Hs
  iapply Hk
  isplitl [Hx]; · iexact Hx
  iapply (Entails.of_eq (pointsTo_congr (write_slot0 X c f))); iexact Hs

end

end Cert.KernelIdeal.Gather

end

end
-- ==== Proof.BodyText.lean ====
/- The kernel's printed body is the opening handshake and the list of actions. -/
module

public import proofs.«01_k».proof.Proof.Text

@[expose] public section

noncomputable section

namespace Cert.KernelIdeal.Gather

open Cert.KernelIdeal Cert.KernelIdeal.Gen
open Idealize.ShloMosaic Idealize.SL.Sem

variable {F : FTy → Type} [FloatOps F]

set_option maxRecDepth 100000 in
set_option maxHeartbeats 4000000 in
/-- The printed body asks which device it runs on and then runs that device's text: one pass over the program,
    each printed operation matched with the next action of the list. -/
theorem body_eq (h0 h1 h2 h3 h4) :
    cc0_body (F := F) xM h0 wM h1 oM h2 cM h3 bM h4 cc0_scratch2 cc0_scratch3 cc0_scratch4 cc0_scratch5
      = .op .deviceId (fun d0 => bodyText d0) := by
  refine (congrFun (congrFun (congrFun (congrFun (congrFun (congrFun (congrFun (congrFun (congrFun (congrFun (congrFun (congrFun
    (congrFun (congrFun cc0_body_eq_skeleton _) _) _) _) _) _) _) _) _) _) _) _) _) _).trans ?_
  refine (Prog.bind_pure _).symm.trans ?_
  unfold cc0_body_skel
  rw [k0_part69_eq_skeleton, k0_part70_eq_skeleton]
  unfold k0_part69_skel k0_part70_skel
  simp -zeta only [k0_part1_eq_skeleton, k0_part2_eq_skeleton, k0_part3_eq_skeleton, k0_part4_eq_skeleton,
    k0_part5_eq_skeleton, k0_part6_eq_skeleton, k0_part7_eq_skeleton, k0_part8_eq_skeleton,
    k0_part9_eq_skeleton, k0_part10_eq_skeleton, k0_part11_eq_skeleton, k0_part12_eq_skeleton,
    k0_part13_eq_skeleton, k0_part14_eq_skeleton, k0_part15_eq_skeleton, k0_part16_eq_skeleton,
    k0_part17_eq_skeleton, k0_part18_eq_skeleton, k0_part19_eq_skeleton, k0_part20_eq_skeleton,
    k0_part21_eq_skeleton, k0_part22_eq_skeleton, k0_part23_eq_skeleton, k0_part24_eq_skeleton,
    k0_part25_eq_skeleton, k0_part26_eq_skeleton, k0_part27_eq_skeleton, k0_part28_eq_skeleton,
    k0_part29_eq_skeleton, k0_part30_eq_skeleton, k0_part31_eq_skeleton, k0_part32_eq_skeleton,
    k0_part33_eq_skeleton, k0_part34_eq_skeleton, k0_part35_eq_skeleton, k0_part36_eq_skeleton,
    k0_part37_eq_skeleton, k0_part38_eq_skeleton, k0_part39_eq_skeleton, k0_part40_eq_skeleton,
    k0_part41_eq_skeleton, k0_part42_eq_skeleton, k0_part43_eq_skeleton, k0_part44_eq_skeleton,
    k0_part45_eq_skeleton, k0_part46_eq_skeleton, k0_part47_eq_skeleton, k0_part48_eq_skeleton,
    k0_part49_eq_skeleton, k0_part50_eq_skeleton, k0_part51_eq_skeleton, k0_part52_eq_skeleton,
    k0_part53_eq_skeleton, k0_part54_eq_skeleton, k0_part55_eq_skeleton, k0_part56_eq_skeleton,
    k0_part57_eq_skeleton, k0_part58_eq_skeleton, k0_part59_eq_skeleton, k0_part60_eq_skeleton,
    k0_part61_eq_skeleton, k0_part62_eq_skeleton, k0_part63_eq_skeleton, k0_part64_eq_skeleton,
    k0_part65_eq_skeleton, k0_part66_eq_skeleton, k0_part67_eq_skeleton, k0_part68_eq_skeleton]
  unfold k0_part1_skel
  repeat with_reducible refine peel_assoc ?_
  refine peel_dev fun d0 => ?_
  unfold bodyText acts
  with_reducible refine peel_pure ?_
  repeat (first
    | with_reducible refine peel_assoc ?_
    | with_reducible refine peel_pure ?_
    | with_reducible refine open_initX ?_
    | refine peel_sig' d0 (by revert d0; decide +kernel) (by revert d0; decide +kernel) ?_
    | refine peel_sig d0 (by revert d0; decide +kernel) (by revert d0; decide +kernel) ?_
    | refine peel_bar d0 (by revert d0; decide +kernel) ?_
    | refine peel_op (A := semWaitWord barSem 2#32) fun _ => ?_)
  repeat (first
    | with_reducible refine peel_assoc ?_
    | with_reducible refine peel_pure ?_
    | with_reducible refine open_initW d0 ?_
    | (with_reducible refine peel_start d0 ?ho ?hQ ?_
       case ho => intro q; refine ⟨_, ?_, rfl⟩; revert d0; decide +kernel
       case hQ => revert d0; decide +kernel)
    | (with_reducible refine peel_wait d0 ?ho ?hQ ?_
       case ho => exact fun _ => rfl
       case hQ => revert d0; decide +kernel)
    | (with_reducible refine peel_drain d0 ?ho ?hQ ?_
       case ho => exact fun _ => rfl
       case hQ => revert d0; decide +kernel)
    | (with_reducible refine peel_gemm d0 ?hA ?hQ ?_
       case hA => intro q; refine ⟨_, _, ?_, rfl⟩; revert d0; decide +kernel
       case hQ => revert d0; decide +kernel)
    | (with_reducible refine open_gemm d0 (s := 0) (k0_off1 d0) (inb := ?inb) ?hQ ?ho ?_
       case inb => exact k0_off1_inb d0
       case hQ => revert d0; decide +kernel
       case ho => revert d0; decide +kernel)
    | (with_reducible refine open_gemm d0 (s := 7) (k0_off4 d0 3#32) (inb := ?inb) ?hQ ?ho ?_
       case inb => exact k0_off4_inb d0 2
       case hQ => revert d0; decide +kernel
       case ho => revert d0; decide +kernel)
    | (with_reducible refine open_gemm d0 (s := 14) (k0_off4 d0 1#32) (inb := ?inb) ?hQ ?ho ?_
       case inb => exact k0_off4_inb d0 0
       case hQ => revert d0; decide +kernel
       case ho => revert d0; decide +kernel)
    | (with_reducible refine open_gemm d0 (s := 21) (k0_off4 d0 2#32) (inb := ?inb) ?hQ ?ho ?_
       case inb => exact k0_off4_inb d0 1
       case hQ => revert d0; decide +kernel
       case ho => revert d0; decide +kernel)
    | (with_reducible refine peel_start' d0 ?ho ?hQ ?_
       case ho => refine ⟨_, ?_, rfl⟩; revert d0; decide +kernel
       case hQ => revert d0; decide +kernel)
    | (with_reducible refine peel_wait' d0 ?ho ?hQ ?_
       case ho => exact rfl
       case hQ => revert d0; decide +kernel)
    | (with_reducible refine peel_drain' d0 ?ho ?hQ ?_
       case ho => exact rfl
       case hQ => revert d0; decide +kernel)
    | refine peel_assoc ?_
    | show (dite _ _ _ >>= _) = _
    | refine peel_op fun _ => ?_)
  rfl

end Cert.KernelIdeal.Gather

end

end
-- ==== Proof.Body.lean ====
/- The body on a device: from what the launch gives it, through the opening and the actions, to what it leaves. -/
module

public import proofs.«01_k».proof.Proof.Open
public import proofs.«01_k».proof.Proof.BodyText

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → XC F) (w : Dev nD → WC F)

omit [FloatOps F] in
/-- A family changed member by member. -/
theorem fam_mono {I : Type} [Fintype I] {Φ Ψ : I → sProp 𝕄} (h : ∀ i, Φ i ⊢ Ψ i) : bigSep Finset.univ Φ ⊢ bigSep Finset.univ Ψ :=
  bigSep_mono fun i _ => h i

/-! ## The buffer of blocks, in pieces -/

section
variable (c : Dev nD)

/-- The landing pieces a device keeps: those no copy comes to. -/
def keep : sProp 𝕄 := bigSep Finset.univ fun k : Copy => if act c k = true then iprop(emp) else pcAny (F := F) c (land k)

omit [FloatOps F] in
theorem give_one (k : Copy) (f : CC F) :
    (pc c (land k) fullShare f : sProp 𝕄) ⊢ iprop((bigSep Finset.univ fun e : Fin 4 => if op (dir k) = e ∧ act c k = true then pcAny (F := F) c (land k) else iprop(emp))
      ∗ if act c k = true then iprop(emp) else pcAny (F := F) c (land k)) := by
  have hany : (pc c (land k) fullShare f : sProp 𝕄) ⊢ pcAny (F := F) c (land k) := by
    unfold pcAny; iintro H; iexists f; iexact H
  by_cases ha : act c k = true
  · have e1 : (bigSep Finset.univ fun e : Fin 4 => if op (dir k) = e ∧ act c k = true then pcAny (F := F) c (land k) else iprop(emp))
        = iprop(pcAny (F := F) c (land k) ∗ emp) := by
      rw [bigSep_univ_at _ (op (dir k)), if_pos ⟨rfl, ha⟩,
        bigSep_congr (s := Finset.univ.erase (op (dir k))) (Ψ := fun _ => iprop(emp))
          fun e he => if_neg fun (x : op (dir k) = e ∧ act c k = true) => (Finset.ne_of_mem_erase he) x.1.symm]
      exact congrArg (fun R => iprop(_ ∗ R)) (bigSep_emp_const _)
    rw [e1, if_pos ha]
    iintro H
    ihave H := hany $$ H
    isplitl [H]
    · isplitl [H]; · iexact H
      iempintro
    iempintro
  · have e1 : (bigSep Finset.univ fun e : Fin 4 => if op (dir k) = e ∧ act c k = true then pcAny (F := F) c (land k) else iprop(emp))
        = iprop(emp) := by
      rw [bigSep_congr (s := Finset.univ) (Ψ := fun _ => iprop(emp)) fun e _ => if_neg fun (x : op (dir k) = e ∧ act c k = true) => ha x.2]
      exact bigSep_emp_const _
    rw [e1, if_neg ha]
    iintro H
    isplitr; · iempintro
    iapply hany; iexact H

/-- The whole buffer: slot 0, the pieces to hand out, the pieces to keep. -/
theorem comm_split (f : CC F) :
    (((c : Thread nD τ).loc cc0_scratch0) ↦{fullShare} f : sProp 𝕄)
      ⊢ iprop((bigSep Finset.univ fun h : Fin 4 => pc c (0, h) fullShare f) ∗ (bigSep Finset.univ fun e : Fin 4 => give (F := F) c e) ∗ keep (F := F) c) := by
  have e : (((c : Thread nD τ).loc cc0_scratch0) ↦{fullShare} f : sProp 𝕄) = bigSep Finset.univ fun p : Piece => pc c p fullShare f :=
    Ring.pointsTo_blocks (ℓ := (c : Thread nD τ).loc cc0_scratch0) pieceSet piece_disjoint piece_cover f
  rw [e, bigSep_pieces (fun p : Piece => pc c p fullShare f)]
  have e2 := bigSep_univ_comm (fun (e : Fin 4) (k : Copy) => if op (dir k) = e ∧ act c k = true then pcAny (F := F) c (land k) else (iprop(emp) : sProp 𝕄))
  unfold give keep
  rw [e2, ← bigSep_sep']
  exact sep_mono_right (fam_mono fun k => give_one c k f)

/-- Back in one. -/
theorem comm_join (f : CC F) :
    (bigSep Finset.univ fun p : Piece => pcAny (F := F) c p) ⊢ (∃ f : CC F, (((c : Thread nD τ).loc cc0_scratch0) ↦{fullShare} f) : sProp 𝕄) :=
  Ring.pointsTo_blocks_join_exists (ℓ := (c : Thread nD τ).loc cc0_scratch0) pieceSet piece_disjoint piece_cover f

/-! ## The state the actions start in -/

theorem OUT_start :
    iprop((bigSep Finset.univ fun k : Copy => atPos ER (sendC c k) 0 (∅ : Finset (Fin 4)) 0) ∗ copyToks (F := F) c ∗ got (F := F) c)
      ⊢ bigSep Finset.univ (OUT (F := F) c 0 0) := by
  unfold copyToks got
  rw [← bigSep_sep', ← bigSep_sep']
  refine fam_mono fun k => ?_
  unfold OUT
  by_cases h : snd c k = true
  · rw [if_pos h, if_pos h, if_neg (by omega), if_neg (by omega)]
    iintro ⟨H1, ⟨H2, H3⟩, H4⟩
    isplitl [H1]; · iexact H1
    isplitl [H2]; · iexact H2
    isplitl [H3]; · iexact H3
    iexact H4
  · rw [if_neg h, if_neg h]
    iintro ⟨H1, -, -⟩; iexact H1

theorem RC_start :
    iprop((bigSep Finset.univ fun k : Copy => atPos ER (recvC c k) 0 (∅ : Finset (Fin 4)) 0) ∗ recvCreds (F := F) c)
      ⊢ bigSep Finset.univ (RC (F := F) c []) := by
  unfold recvCreds
  rw [← bigSep_sep']
  refine fam_mono fun k => ?_
  unfold RC
  by_cases h : act c k = true
  · rw [if_pos h, if_pos h, if_neg (by simp)]
  · rw [if_neg h, if_neg h]
    iintro ⟨H1, -⟩; iexact H1

theorem PC_start :
    iprop((bigSep Finset.univ fun h : Fin 4 => pc c (0, h) fullShare (commOf X c)) ∗ keep (F := F) c)
      ⊢ bigSep Finset.univ (PC X c 0 0 []) := by
  rw [bigSep_pieces (PC X c 0 0 [])]
  unfold keep
  refine BIClass.sep_mono (fam_mono fun h => ?_) (fam_mono fun k => ?_)
  · have hl : ∀ d, ¬ lent c 0 0 (0, h) d := fun d ⟨k, _, _, _, hk, _⟩ => absurd hk (by omega)
    unfold PC full lf
    rw [if_pos (show holds c (0 : Fin 28) = true from holds_zero c), if_pos (show arrived [] (0, h) from Or.inl rfl), pc_shares,
      bigSep_congr (s := Finset.univ) (Ψ := fun d : Fin 4 => pc c (0, h) (lend d) (commOf X c)) fun d _ => if_neg (hl d)]
  · unfold PC
    by_cases ha : act c k = true
    · rw [if_pos ha, if_pos (show holds c (land k).1 = true from ha), if_neg]
      rintro (h | h)
      · exact Fin.succ_ne_zero _ h
      · exact absurd h (by simp)
    · rw [if_neg ha, if_neg (show ¬ holds c (land k).1 = true from ha)]

/-! ## The opening -/

variable (K : Dev nD × CI → ℕ)

/-- What the body starts from. -/
def enter : sProp 𝕄 :=
  iprop(Rec X K ∗ (∃ W, owes (c : Thread nD τ) (O₀ c) W) ∗ ats (F := F) c ∗ sigToks (F := F) c ∗ copyToks (F := F) c
    ∗ cred (tallyAt (barC c) () (nHas c)) ∗ recvCreds (F := F) c
    ∗ (∃ f : CC F, (((c : Thread nD τ).loc cc0_scratch0) ↦{fullShare} f)) ∗ (∃ f : WC F, (((c : Thread nD τ).loc cc0_scratch1) ↦{fullShare} f))
    ∗ (((c : Thread nD τ).loc cc0_stg0_0) ↦{fullShare} X c) ∗ (((c : Thread nD τ).loc cc0_stg1_0) ↦{fullShare} w c)
    ∗ (∃ f : OC F, (((c : Thread nD τ).loc cc0_stg2_0) ↦{fullShare} f)))

omit [FloatOps F] in
theorem creds_split :
    (cred (tallyAt (barC c) () (nHas c)) : sProp 𝕄)
      ⊢ iprop(cred (tallyAt (barC c) () 2) ∗ cred (tallyAt (barC c) () (if has c 0 = true then 1 else 0)) ∗ cred (tallyAt (barC c) () (if has c 1 = true then 1 else 0))) := by
  have e : tallyAt (barC c) () (nHas c) = tallyAt (barC c) () 2 + (tallyAt (barC c) () (if has c 0 = true then 1 else 0) + tallyAt (barC c) () (if has c 1 = true then 1 else 0)) := by
    rw [nHas_eq, Nat.add_assoc, tallyAt_add, tallyAt_add]
  rw [e]
  refine (cred_add _ _).1.trans (sep_mono_right (cred_add _ _).1)

omit [FloatOps F] in
theorem BAR_start : (atPos ER (barC c) 0 (∅ : Finset (Fin 4)) 0 : sProp 𝕄) ⊢ BAR (F := F) c 0 := by
  unfold BAR
  iintro H
  iexists ∅
  isplitr
  · ipureintro
    refine ⟨Finset.empty_subset _, ?_⟩
    rw [Finset.sdiff_empty, Nat.zero_add]; exact le_refl _
  isplitl [H]; · iexact H
  rw [bigSep_empty]; iempintro

set_option maxHeartbeats 1000000 in
theorem opening {Q : PUnit.{1} → sProp 𝕄} {B : P F PUnit.{1}} :
    iprop(enter X w c K
        ∗ ((Inv X w c σ₀ ∗ (((c : Thread nD τ).loc cc0_stg0_0) ↦{fullShare} X c) ∗ atPos ER (barC c) 1 (∅ : Finset (Fin 4)) 0)
            -∗ wp frame (wpE (defs₀ (F := F)) 𝒱₀ (c : Thread nD τ) none) Set.univ B Q))
      ⊢ wp frame (wpE (defs₀ (F := F)) 𝒱₀ (c : Thread nD τ) none) Set.univ
          (sigOp c 3 >>= fun _ => sigOp c 2 >>= fun _ => sigOp c 0 >>= fun _ => sigOp c 1 >>= fun _ =>
            semWaitWord barSem 2#32 >>= fun _ => barOp c 0 >>= fun _ => barOp c 1 >>= fun _ => initXOp >>= fun _ => B) Q := by
  unfold enter ats sigToks O₀
  rw [bigSep_fin4]
  iintro ⟨⟨#HR, ⟨%W, HO⟩, ⟨HatB, HatS, HatR⟩, ⟨Ht0, Ht1, Ht2, Ht3⟩, Hct, Hcb, Hcr, ⟨%fc, Hc⟩, ⟨%fb, Hb⟩, Hx, Hw, ⟨%fo, Ho⟩⟩, Hk⟩
  ihave Hc := (comm_split c fc) $$ Hc
  icases Hc with ⟨Hs0, Hg, Hkeep⟩
  ihave Hg := (Entails.of_eq (bigSep_fin4 (fun e : Fin 4 => give (F := F) c e))) $$ Hg
  icases Hg with ⟨Hg0, Hg1, Hg2, Hg3⟩
  iapply (step_sig X K c 3 (owedR c 0 + OB c 1 + OB c 0 + OB c 2) W)
  isplitr; · iexact HR
  isplitl [HO]; · iexact HO
  isplitl [Ht3]; · iexact Ht3
  isplitl [Hg3]; · iexact Hg3
  iintro HO
  iapply (step_sig X K c 2 (owedR c 0 + OB c 1 + OB c 0) W)
  isplitr; · iexact HR
  isplitl [HO]; · iexact HO
  isplitl [Ht2]; · iexact Ht2
  isplitl [Hg2]; · iexact Hg2
  iintro HO
  iapply (step_sig X K c 0 (owedR c 0 + OB c 1) W)
  isplitr; · iexact HR
  isplitl [HO]; · iexact HO
  isplitl [Ht0]; · iexact Ht0
  isplitl [Hg0]; · iexact Hg0
  iintro HO
  iapply (step_sig X K c 1 (owedR c 0) W)
  isplitr; · iexact HR
  isplitl [HO]; · iexact HO
  isplitl [Ht1]; · iexact Ht1
  isplitl [Hg1]; · iexact Hg1
  iintro HO
  ihave Hcb := (creds_split (F := F) c) $$ Hcb
  icases Hcb with ⟨Hc2, Hc0, Hc1⟩
  ihave HB := (BAR_start (F := F) c) $$ HatB
  iapply (step_bar X K c (owedR c 0) (mayWait_bar (F := F) c 0) 0 2 2#32 (by decide))
  isplitr; · iexact HR
  isplitl [HO]; · iexists W; iexact HO
  isplitl [Hc2]; · iexact Hc2
  isplitl [HB]; · iexact HB
  iintro ⟨HO, HB⟩
  iapply (step_bar_if X K c (owedR c 0) (mayWait_bar (F := F) c 0) (0 + 2) 0)
  isplitr; · iexact HR
  isplitl [HO]; · iexact HO
  isplitl [Hc0]; · iexact Hc0
  isplitl [HB]; · iexact HB
  iintro ⟨HO, HB⟩
  iapply (step_bar_if X K c (owedR c 0) (mayWait_bar (F := F) c 0) (0 + 2 + if has c 0 = true then 1 else 0) 1)
  isplitr; · iexact HR
  isplitl [HO]; · iexact HO
  isplitl [Hc1]; · iexact Hc1
  isplitl [HB]; · iexact HB
  iintro ⟨HO, HB⟩
  have en : 0 + 2 + (if has c 0 = true then 1 else 0) + (if has c 1 = true then 1 else 0) = nHas c := by rw [nHas_eq, Nat.zero_add]
  ihave HB := (Entails.of_eq (congrArg (BAR (F := F) c) en)) $$ HB
  imod (bar_done X K c) $$ [HB] with ⟨HatB, Hgot⟩
  · isplitr; · iexact HR
    iexact HB
  iapply (step_initX X c fc)
  isplitl [Hx]; · iexact Hx
  isplitl [Hs0]; · iexact Hs0
  iintro ⟨Hx, Hs0⟩
  iapply Hk
  isplitr [Hx HatB]
  · unfold Inv
    isplitl [HO]; · iexact HO
    isplitl [HatS Hct Hgot]
    · iapply (OUT_start (F := F) c)
      isplitl [HatS]; · iexact HatS
      isplitl [Hct]; · iexact Hct
      iexact Hgot
    isplitl [HatR Hcr]
    · iapply (RC_start (F := F) c)
      isplitl [HatR]; · iexact HatR
      iexact Hcr
    isplitl [Hs0 Hkeep]
    · iapply (PC_start X c)
      isplitl [Hs0]; · iexact Hs0
      iexact Hkeep
    isplitl [Ho]
    · unfold outB
      iexists fo
      isplitr; · (ipureintro; exact fun s hs => absurd hs (List.not_mem_nil))
      iexact Ho
    isplitl [Hw]; · iexact Hw
    unfold wB
    iexists fb
    isplitr; · (ipureintro; exact fun h => absurd h (by decide))
    iexact Hb
  isplitl [Hx]; · iexact Hx
  iexact HatB

/-! ## What the body leaves -/

/-- A cell of a copy at its end: past every round it has. -/
def atE (bk : Bool × Copy) : sProp 𝕄 :=
  iprop(∃ R : ℕ, ⌜∀ r, R ≤ r → (Rd X).duties (kcell (c, some bk)) r = ∅⌝ ∗ atPos ER (kcell (c, some bk)) R (∅ : Finset (Fin 4)) 0)

theorem atE_close (bk : Bool × Copy) : iprop(Rec X K ∗ atE X c bk) ⊢ |={Set.univ}=> semVal (kcell (c, some bk)) 0 := by
  unfold atE
  iintro ⟨#HR, ⟨%R, %hR, Hat⟩⟩
  ihave #I := (rec_inv X K (c, some bk)) $$ HR
  iapply (Rounds.cell_close ER (Rd X) (κ := K (c, some bk)) (Set.mem_univ _) (fun h => h) (R := R) hR)
  isplitr; · iexact I
  iexact Hat

theorem all_close :
    iprop(Rec X K ∗ bigSep Finset.univ (atE X c)) ⊢ |={Set.univ}=> bigSep Finset.univ fun bk : Bool × Copy => semVal (kcell (c, some bk)) 0 :=
  (bigSep_with_persistent fun bk _ => atE_close X c K bk).trans (bigSep_fupd _ _)

theorem atE_split :
    iprop((bigSep Finset.univ fun k : Copy => atE X c (false, k)) ∗ bigSep Finset.univ fun k : Copy => atE X c (true, k)) ⊢ bigSep Finset.univ (atE X c) := by
  have e1 := bigSep_univ_prod (atE X c)
  have e2 := bigSep_univ_eq_bigSepL [false, true] (by decide) (by decide) (fun b : Bool => bigSep Finset.univ fun k : Copy => atE X c (b, k))
  rw [e1]
  exact Entails.of_eq e2.symm

theorem OUT_end (k : Copy) : OUT (F := F) c 108 108 k ⊢ atE X c (false, k) := by
  unfold OUT atE
  by_cases h : snd c k = true
  · rw [if_pos h, if_pos (pos_lt k)]
    iintro H; iexists 1
    isplitr; · (ipureintro; exact duties_later X _)
    iexact H
  · rw [if_neg h]
    iintro H; iexists 0
    isplitr; · (ipureintro; exact duties_none X c _ (by simp [dutiesAt, h]))
    iexact H

theorem RC_end (wt : List Copy) (hw : ∀ k : Copy, k ∈ wt) (k : Copy) : RC (F := F) c wt k ⊢ atE X c (true, k) := by
  unfold RC atE
  by_cases h : act c k = true
  · rw [if_pos h, if_pos (hw k)]
    iintro H; iexists 1
    isplitr; · (ipureintro; exact duties_later X _)
    iexact H
  · rw [if_neg h]
    iintro H; iexists 0
    isplitr; · (ipureintro; exact duties_none X c _ (by simp [dutiesAt, h]))
    iexact H

theorem PC_end (wt : List Copy) (hw : ∀ k : Copy, k ∈ wt) (p : Piece) : PC X c 108 108 wt p ⊢ pcAny (F := F) c p := by
  unfold PC
  by_cases h : holds c p.1 = true
  · have ha : arrived wt p := by
      obtain ⟨s, h4⟩ := p
      by_cases hs : s = 0
      · exact Or.inl hs
      · refine Or.inr (List.mem_map.mpr ⟨(s.pred hs, h4), hw _, ?_⟩)
        unfold land; rw [Fin.succ_pred]
    have hl : ∀ d, ¬ lent c 108 108 p d := fun d ⟨k, _, _, _, _, hk⟩ => absurd hk (by have := pos_lt k; omega)
    unfold full lf
    rw [if_pos h, if_pos ha, bigSep_congr (s := Finset.univ) (Ψ := fun d : Fin 4 => pc c p (lend d) (commOf X c)) fun d _ => if_neg (hl d),
      ← pc_shares]
    unfold pcAny
    iintro H; iexists _; iexact H
  · rw [if_neg h]

theorem out_end (g : List (Fin 28)) (hg : ∀ s : Fin 28, s ∈ g) :
    outB X w c g ⊢ (((c : Thread nD τ).loc cc0_stg2_0) ↦{fullShare} outOf X (w c) : sProp 𝕄) := by
  unfold outB
  iintro ⟨%f, %hf, H⟩
  have e : f = outOf X (w c) := by
    funext i
    obtain ⟨s, h1, h2⟩ := origin_surj c (rowDev i)
    exact hf s (hg s) h1 i h2.symm
  subst e
  iexact H

/-- What the body leaves. -/
def leave : sProp 𝕄 :=
  iprop((∃ W, owes (c : Thread nD τ) 0 W)
    ∗ (∃ f : CC F, (((c : Thread nD τ).loc cc0_scratch0) ↦{fullShare} f)) ∗ (∃ f : WC F, (((c : Thread nD τ).loc cc0_scratch1) ↦{fullShare} f))
    ∗ (((c : Thread nD τ).loc cc0_stg0_0) ↦{fullShare} X c) ∗ (((c : Thread nD τ).loc cc0_stg1_0) ↦{fullShare} w c)
    ∗ (((c : Thread nD τ).loc cc0_stg2_0) ↦{fullShare} outOf X (w c))
    ∗ semVal (barC c) 0 ∗ bigSep Finset.univ fun bk : Bool × Copy => semVal (kcell (c, some bk)) 0)

set_option maxHeartbeats 1000000 in
theorem leaving (σ : St) (hσ : final σ) :
    iprop(Rec X K ∗ Inv X w c σ ∗ (((c : Thread nD τ).loc cc0_stg0_0) ↦{fullShare} X c) ∗ atPos ER (barC c) 1 (∅ : Finset (Fin 4)) 0)
      ⊢ |={Set.univ}=> leave X w c := by
  obtain ⟨n, m, wt, g, wi⟩ := σ
  obtain ⟨h1, h2, h3, h4, h5⟩ := hσ
  dsimp only at h1 h2 h3 h4 h5
  subst h1 h2
  unfold Inv leave
  dsimp only
  rw [owedR_all]
  iintro ⟨#HR, ⟨HO, Hout, Hrc, Hpc, Ho, Hw, Hb⟩, Hx, HatB⟩
  ihave #I := (rec_inv X K (c, none)) $$ HR
  imod (Rounds.cell_close ER (Rd X) (κ := K (c, none)) (Set.mem_univ _) (fun h => h) (R := 1) (duties_later X (barC c))) $$ [HatB] with HzB
  · isplitr; · iexact I
    iexact HatB
  ihave H1 := (fam_mono fun k => OUT_end X c k) $$ Hout
  ihave H2 := (fam_mono fun k => RC_end X c wt h3 k) $$ Hrc
  imod (all_close X c K) $$ [H1 H2] with Hz
  · isplitr; · iexact HR
    iapply (atE_split X c)
    isplitl [H1]; · iexact H1
    iexact H2
  ihave Hc := (fam_mono fun p => PC_end X c wt h3 p) $$ Hpc
  ihave Ho := (out_end X w c g h4) $$ Ho
  imodintro
  isplitl [HO]; · iexact HO
  isplitl [Hc]; · iapply (comm_join c (commOf X c)); iexact Hc
  isplitl [Hb]
  · unfold wB
    icases Hb with ⟨%f, -, Hb⟩
    iexists f; iexact Hb
  isplitl [Hx]; · iexact Hx
  isplitl [Hw]; · iexact Hw
  isplitl [Ho]; · iexact Ho
  isplitl [HzB]; · iexact HzB
  iexact Hz

/-! ## The body -/

/-- The body from `enter` to `leave`. -/
theorem sound_body (Kt : PUnit.{1} → sProp 𝕄)
    {h0 : xM.IsWhole} {h1 : wM.IsWhole} {h2 : oM.IsWhole} {h3 : cM.IsWhole} {h4 : bM.IsWhole} :
    iprop(enter X w c K ∗ (leave X w c -∗ Kt ⟨⟩))
      ⊢ wp frame (wpE (defs₀ (F := F)) 𝒱₀ (c : Thread nD τ) none) Set.univ
          (cc0_body (F := F) xM h0 wM h1 oM h2 cM h3 bM h4 cc0_scratch2 cc0_scratch3 cc0_scratch4 cc0_scratch5) Kt := by
  rw [body_eq]
  have hRec : enter X w c K ⊢ iprop(Rec X K ∗ enter X w c K) := by
    unfold enter
    iintro ⟨#HR, H⟩
    isplitr; · iexact HR
    isplitr; · iexact HR
    iexact H
  simp only [wp_deviceId]
  show _ ⊢ wp _ _ _ (bodyText c) _
  unfold bodyText
  iintro ⟨He, Hk⟩
  ihave He := hRec $$ He
  icases He with ⟨#HR, He⟩
  iapply (opening X w c K)
  isplitl [He]; · iexact He
  iintro ⟨Hi, Hx, HatB⟩
  iapply (run_acts X w K c acts σ₀ acts_ok)
  isplitr; · iexact HR
  isplitl [Hi]; · iexact Hi
  iintro %σ ⟨%hσ, Hi⟩
  rw [Prog.pure_eq_ret, wp_ret]
  imod (leaving X w c K σ hσ) $$ [Hi Hx HatB] with Hl
  · isplitr; · iexact HR
    isplitl [Hi]; · iexact Hi
    isplitl [Hx]; · iexact Hx
    iexact HatB
  imodintro
  iapply Hk; iexact Hl

end

end Cert.KernelIdeal.Gather

end

end
-- ==== Proof.Alloc.lean ====
/- The launch's ghost state: the cells of all devices allocated together, their duty tokens dealt to the devices that pay
   them, and the credit each device starts with. -/
module

public import proofs.«01_k».proof.Proof.Body

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → XC F)

/-! ## Families over a device's cells -/

omit [FloatOps F] in
theorem bigSep_CI (Φ : CI → sProp 𝕄) :
    bigSep Finset.univ Φ = iprop(Φ none ∗ (bigSep Finset.univ fun k : Copy => Φ (some (false, k))) ∗ bigSep Finset.univ fun k : Copy => Φ (some (true, k))) := by
  have e : (Finset.univ.erase (none : CI)) = Finset.univ.map Function.Embedding.some := by
    ext i
    cases i <;> simp
  have e1 := bigSep_univ_eq_bigSepL [false, true] (by decide) (by decide) (fun b : Bool => bigSep Finset.univ fun k : Copy => Φ (some (b, k)))
  rw [bigSep_univ_at Φ none, e, bigSep_map, bigSep_univ_prod (fun bk : Bool × Copy => Φ (Function.Embedding.some bk))]
  exact congrArg (fun R => iprop(_ ∗ R)) e1

omit [FloatOps F] in
theorem bigSep_own (Φ : Bool × Copy → sProp 𝕄) :
    bigSep Finset.univ Φ = iprop((bigSep Finset.univ fun k : Copy => Φ (false, k)) ∗ bigSep Finset.univ fun k : Copy => Φ (true, k)) := by
  rw [bigSep_univ_prod Φ]
  exact bigSep_univ_eq_bigSepL [false, true] (by decide) (by decide) (fun b : Bool => bigSep Finset.univ fun k : Copy => Φ (b, k))

/-! ## Cells and tokens -/

theorem kcell_injective : Function.Injective kcell := by
  rintro ⟨c, i⟩ ⟨c', i'⟩ h
  have h1 : c = c' := congrArg (fun g : GSem nD τ sig => g.1.1) h
  have h2 : i = i' := csem_inj (congrArg Prod.snd h)
  rw [h1, h2]

theorem kcell_eq {c c' : Dev nD} (i i' : CI) (h : kcell (c, i) = kcell (c', i')) : c = c' ∧ i = i' := Prod.mk.inj (kcell_injective h)

def allCells : Finset (GSem nD τ sig) := Finset.univ.map ⟨kcell, kcell_injective⟩

/-- A duty token of a device's own cells: one for each direction at the barrier, one at each copy's cells. -/
abbrev Tk := Fin 4 ⊕ (Bool × Copy)
def tokOf : Dev nD × Tk → GSem nD τ sig × ℕ × Fin 4
  | (c, .inl d) => (barC c, 0, d)
  | (c, .inr bk) => (kcell (c, some bk), 0, 0)
theorem tokOf_injective : Function.Injective tokOf := by
  rintro ⟨c, t⟩ ⟨c', t'⟩ h
  rcases t with d | bk <;> rcases t' with d' | bk' <;>
    have h1 := congrArg (fun x : GSem nD τ sig × ℕ × Fin 4 => x.1) h <;>
    have h2 := congrArg (fun x : GSem nD τ sig × ℕ × Fin 4 => x.2.2) h <;> dsimp only [tokOf] at h1 h2
  · have e := kcell_eq none none h1
    rw [e.1, h2]
  · exact absurd (kcell_eq none (some bk') h1).2 (by simp)
  · exact absurd (kcell_eq (some bk) none h1).2 (by simp)
  · have e := kcell_eq (some bk) (some bk') h1
    rw [e.1, Option.some.inj e.2]
def allToks : Finset (GSem nD τ sig × ℕ × Fin 4) := Finset.univ.map ⟨tokOf, tokOf_injective⟩

/-- The duty tokens of device `c`'s own cells. -/
def toks (c : Dev nD) : sProp 𝕄 :=
  iprop((bigSep Finset.univ fun d : Fin 4 => dutyTok ER (barC c) 0 d) ∗ bigSep Finset.univ fun bk : Bool × Copy => dutyTok ER (kcell (c, some bk)) 0 (0 : Fin 4))

/-- What the launch deals device `c`. -/
def G (c : Dev nD) : sProp 𝕄 :=
  iprop((bigSep Finset.univ fun i : CI => roundState ER (Rd X) (kcell (c, i)) 0)
    ∗ (bigSep Finset.univ fun i : CI => iprop(atPos ER (kcell (c, i)) 0 (∅ : Finset (Fin 4)) 0 ∗ reached ER (kcell (c, i)) 0)) ∗ toks c)

theorem fund_all : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum]; rfl
  iintro HX
  imod (Rounds.fund ER (Rd X) allCells allToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocation -/

theorem ownSemFacts : Pipeline.OwnSemFacts cfg0.spec osem where
  isScoped := by decide +kernel
  inj := osem_inj
  disj := by decide +kernel

omit [FloatOps F] in
theorem unscopedSems0_eq (c : Dev nD) : (unscopedSems0 c : sProp 𝕄) = semVal (barC c) 0 := by
  unfold unscopedSems0; rw [bigSep_eq_bigSepL_of_eq [SemLoc.reg barSem] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  unfold Pipeline.ownSems0
  rw [unscopedSems0_eq, bigSep_CI, bigSep_own (fun bk : Bool × Copy => semVal ((c : Thread nD τ), osem bk) 0)]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun i : CI => iprop(∃ κ : ℕ, cellInv ER (Rd X) κ (kcell (c, i))))
          ∗ (bigSep Finset.univ fun i : CI => iprop(atPos ER (kcell (c, i)) 0 (∅ : Finset (Fin 4)) 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (Rd X) (kcell (c, i)) 0)
      ⊢ (|={Set.univ}=> bigSep Finset.univ fun i : CI => iprop(∃ κ : ℕ, cellInv ER (Rd X) κ (kcell (c, i))) : sProp 𝕄) from by
        rw [← bigSep_sep']
        exact (fam_mono fun i => (Rounds.body_intro ER (Rd X) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- A direction out of a device is the opposite direction out of the device it leads to. -/
def turn : Dev nD × Fin 4 ≃ Dev nD × Fin 4 where
  toFun x := (nbr x.1 x.2, op x.2)
  invFun x := (nbr x.1 x.2, op x.2)
  left_inv x := Prod.ext (nbr_op x.1 x.2) (op_op x.2)
  right_inv x := Prod.ext (nbr_op x.1 x.2) (op_op x.2)

/-- The device a copy leaves from and the device it comes to. -/
def hop : Dev nD × Copy ≃ Dev nD × Copy where
  toFun x := (nbr x.1 (dir x.2), x.2)
  invFun x := (nbr x.1 (op (dir x.2)), x.2)
  left_inv x := Prod.ext (nbr_op x.1 (dir x.2)) rfl
  right_inv x := by
    have := nbr_op x.1 (op (dir x.2))
    rw [op_op] at this
    exact Prod.ext this rfl

omit [FloatOps F] in
theorem toks_dealt : (bigSep Finset.univ fun c : Dev nD => (toks (F := F) c : sProp 𝕄)) ⊢ bigSep Finset.univ fun c : Dev nD => iprop(sigToks (F := F) c ∗ copyToks (F := F) c) := by
  have e1 : (bigSep Finset.univ fun c : Dev nD => bigSep Finset.univ fun d : Fin 4 => (dutyTok ER (barC c) 0 d : sProp 𝕄))
      = bigSep Finset.univ fun c : Dev nD => sigToks (F := F) c := by
    unfold sigToks
    rw [← bigSep_univ_prod (fun x : Dev nD × Fin 4 => (dutyTok ER (barC x.1) 0 x.2 : sProp 𝕄)), bigSep_univ_equiv turn,
      ← bigSep_univ_prod (fun x : Dev nD × Fin 4 => (dutyTok ER (barC (nbr x.1 x.2)) 0 (op x.2) : sProp 𝕄))]
    rfl
  have e2 : (bigSep Finset.univ fun c : Dev nD => bigSep Finset.univ fun k : Copy => (dutyTok ER (recvC c k) 0 (0 : Fin 4) : sProp 𝕄))
      = bigSep Finset.univ fun c : Dev nD => bigSep Finset.univ fun k : Copy => dutyTok ER (recvC (nbr c (dir k)) k) 0 (0 : Fin 4) := by
    rw [← bigSep_univ_prod (fun x : Dev nD × Copy => (dutyTok ER (recvC x.1 x.2) 0 (0 : Fin 4) : sProp 𝕄)), bigSep_univ_equiv hop,
      ← bigSep_univ_prod (fun x : Dev nD × Copy => (dutyTok ER (recvC (nbr x.1 (dir x.2)) x.2) 0 (0 : Fin 4) : sProp 𝕄))]
    rfl
  have e3 : ∀ c : Dev nD, (toks (F := F) c : sProp 𝕄) = iprop((bigSep Finset.univ fun d : Fin 4 => dutyTok ER (barC c) 0 d)
      ∗ (bigSep Finset.univ fun k : Copy => dutyTok ER (sendC c k) 0 (0 : Fin 4)) ∗ bigSep Finset.univ fun k : Copy => dutyTok ER (recvC c k) 0 (0 : Fin 4)) := by
    intro c; unfold toks; rw [bigSep_own]; rfl
  have e4 : ∀ c : Dev nD, copyToks (F := F) c = iprop((bigSep Finset.univ fun k : Copy => dutyTok ER (sendC c k) 0 (0 : Fin 4))
      ∗ bigSep Finset.univ fun k : Copy => dutyTok ER (recvC (nbr c (dir k)) k) 0 (0 : Fin 4)) := by
    intro c; unfold copyToks; rw [bigSep_sep']
  simp only [e3, e4]
  rw [bigSep_sep', bigSep_sep', bigSep_sep', bigSep_sep', e1, e2]

/-! ## Everything dealt -/

/-- What the ghost state gives device `c`. -/
def ghost (K : Dev nD × CI → ℕ) (c : Dev nD) : sProp 𝕄 :=
  iprop((bigSep Finset.univ fun ci : Dev nD × CI => cellInv ER (Rd X) (K ci) (kcell ci))
    ∗ (bigSep Finset.univ fun ci : Dev nD × CI => reached ER (kcell ci) 0)
    ∗ ats (F := F) c ∗ sigToks (F := F) c ∗ copyToks (F := F) c)

def G' (c : Dev nD) : sProp 𝕄 := iprop(∃ K, ghost X K c)

/-- The invariants and marks all devices share. -/
def records (K : Dev nD × CI → ℕ) : sProp 𝕄 :=
  iprop((bigSep Finset.univ fun ci : Dev nD × CI => cellInv ER (Rd X) (K ci) (kcell ci))
    ∗ bigSep Finset.univ fun ci : Dev nD × CI => reached ER (kcell ci) 0)

instance records_persistent (K : Dev nD × CI → ℕ) : BI.Persistent (records X K) := by unfold records; infer_instance

theorem ghost_intro (K : Dev nD × CI → ℕ) (c : Dev nD) :
    iprop(records X K ∗ ((bigSep Finset.univ fun i : CI => atPos ER (kcell (c, i)) 0 (∅ : Finset (Fin 4)) 0) ∗ (sigToks (F := F) c ∗ copyToks (F := F) c))) ⊢ G' X c := by
  unfold records G' ghost ats
  rw [bigSep_CI]
  iintro ⟨⟨#HI, #HR⟩, ⟨H1, H2, H3⟩, H4, H5⟩
  iexists K
  isplitr; · iexact HI
  isplitr; · iexact HR
  isplitl [H1 H2 H3]
  · isplitl [H1]; · iexact H1
    isplitl [H2]; · iexact H2
    iexact H3
  isplitl [H4]; · iexact H4
  iexact H5

theorem regroup :
    (bigSep Finset.univ fun c : Dev nD => iprop((bigSep Finset.univ fun i : CI => iprop(∃ κ : ℕ, cellInv ER (Rd X) κ (kcell (c, i))))
          ∗ (bigSep Finset.univ fun i : CI => iprop(atPos ER (kcell (c, i)) 0 (∅ : Finset (Fin 4)) 0 ∗ reached ER (kcell (c, i)) 0)) ∗ toks c) : sProp 𝕄)
      ⊢ bigSep Finset.univ (G' X) := by
  rw [bigSep_sep', bigSep_sep', ← bigSep_univ_prod (fun ci : Dev nD × CI => iprop(∃ κ : ℕ, cellInv ER (Rd X) κ (kcell ci))),
    bigSep_congr (s := Finset.univ) (fun (c : Dev nD) _ => bigSep_sep' Finset.univ (fun i : CI => (atPos ER (kcell (c, i)) 0 (∅ : Finset (Fin 4)) 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok⟩
  ihave HK := (BI.bigSep_exists_pi Finset.univ (fun (ci : Dev nD × CI) (κ : ℕ) => (cellInv ER (Rd X) κ (kcell ci) : sProp 𝕄))) $$ HI
  icases HK with ⟨%K, #HI⟩
  ihave Htk := (toks_dealt (F := F)) $$ Htok
  iapply (bigSep_with_persistent (R := records X K) fun c _ => ghost_intro X K c)
  isplitr
  · unfold records; isplitl; · iexact HI
    iexact HR
  · iapply (Entails.of_eq (bigSep_sep' Finset.univ (fun c : Dev nD => bigSep Finset.univ fun i : CI => (atPos ER (kcell (c, i)) 0 (∅ : Finset (Fin 4)) 0 : sProp 𝕄)) (fun c => iprop(sigToks (F := F) c ∗ copyToks (F := F) c))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((fam_mono fun c => core_alloc X c).trans (bigSep_fupd _ _)).trans (BI.fupd_mono (regroup X))

/-! ## The credit at launch -/

theorem bar_eq_iff {a b : Dev nD} : barC a = barC b ↔ a = b := ⟨fun h => (kcell_eq none none h).1, fun h => h ▸ rfl⟩
theorem recv_eq_iff {a b : Dev nD} {k k' : Copy} : recvC a k = recvC b k' ↔ a = b ∧ k = k' :=
  ⟨fun h => by
    have e := kcell_eq (some (true, k)) (some (true, k')) h
    exact ⟨e.1, (Prod.mk.inj (Option.some.inj e.2)).2⟩, fun ⟨h1, h2⟩ => by rw [h1, h2]⟩
theorem bar_ne_recv {a b : Dev nD} {k : Copy} : barC a ≠ recvC b k := fun h => by
  exact absurd (kcell_eq none (some (true, k)) h).2 (by simp)

theorem owedR_bar (d c : Dev nD) : owedR d 0 (barC c) () = 0 := by
  by_contra h
  obtain ⟨k, -, e⟩ := owedR_pos (Nat.pos_of_ne_zero h)
  exact bar_ne_recv e
theorem OB_bar (d c : Dev nD) (e : Fin 4) : OB d e (barC c) () = if has d e = true ∧ nbr d e = c then 1 else 0 := by
  unfold OB
  by_cases h : has d e = true
  · rw [if_pos h, tallyAt_apply]
    by_cases h2 : nbr d e = c
    · subst h2; rw [if_pos ⟨rfl, rfl⟩, if_pos ⟨h, rfl⟩]
    · rw [if_neg fun x => h2 (bar_eq_iff.mp x.1).symm, if_neg fun x => h2 x.2]
  · rw [if_neg h, if_neg fun x => h x.1]; rfl
theorem OB_recv (d c : Dev nD) (e : Fin 4) (k : Copy) : OB d e (recvC c k) () = 0 := by
  by_contra h
  exact bar_ne_recv (OB_pos (Nat.pos_of_ne_zero h)).symm
theorem owedR_recv (d c : Dev nD) (k : Copy) : owedR d 0 (recvC c k) () = if snd d k = true ∧ nbr d (dir k) = c then N else 0 := by
  unfold owedR
  rw [Finset.sum_apply, Finsupp.finset_sum_apply, Finset.sum_eq_single k]
  · by_cases h : snd d k = true
    · rw [if_pos ⟨h, Nat.zero_le _⟩, tallyAt_apply]
      by_cases h2 : nbr d (dir k) = c
      · subst h2; rw [if_pos ⟨rfl, rfl⟩, if_pos ⟨h, rfl⟩]
      · rw [if_neg fun x => h2 (recv_eq_iff.mp x.1).1.symm, if_neg fun x => h2 x.2]
    · rw [if_neg fun x => h x.1, if_neg fun x => h x.1]; rfl
  · intro k' _ hk
    split
    · rw [tallyAt_apply, if_neg fun x => hk (recv_eq_iff.mp x.1).2.symm]
    · rfl
  · exact fun h => absurd (Finset.mem_univ _) h

/-- How many signals come to a device: as many as it has neighbours. -/
theorem count_bar : ∀ c : Dev nD, (∑ d : Dev nD, ((((if has d 1 = true ∧ nbr d 1 = c then 1 else 0) + (if has d 0 = true ∧ nbr d 0 = c then 1 else 0))
    + (if has d 2 = true ∧ nbr d 2 = c then 1 else 0)) + (if has d 3 = true ∧ nbr d 3 = c then 1 else 0))) = nHas c := by decide +kernel

theorem launch_bar (c : Dev nD) :
    tallyOn (barC c) (launchCredit (Pipeline.owing O₀) 0 (barC c)) = (tallyAt (barC c) () (nHas c) : CellTallies nD τ sig Unit) := by
  unfold tallyAt; refine congrArg _ (Finsupp.ext fun u => ?_); cases u
  rw [Pipeline.launchCredit_owing, Finsupp.single_eq_same, ← count_bar]
  refine Finset.sum_congr rfl fun d _ => ?_
  unfold O₀
  simp only [Pi.add_apply, Finsupp.add_apply]
  rw [owedR_bar, OB_bar, OB_bar, OB_bar, OB_bar, Nat.zero_add]

theorem launch_recv (c : Dev nD) (k : Copy) :
    tallyOn (recvC c k) (launchCredit (Pipeline.owing O₀) 0 (recvC c k)) = (tallyAt (recvC c k) () (if act c k = true then N else 0) : CellTallies nD τ sig Unit) := by
  unfold tallyAt; refine congrArg _ (Finsupp.ext fun u => ?_); cases u
  rw [Pipeline.launchCredit_owing, Finsupp.single_eq_same]
  have e : ∀ d : Dev nD, O₀ d (recvC c k) () = if d = nbr c (op (dir k)) then (if act c k = true then N else 0) else 0 := by
    intro d
    have h1 : O₀ d (recvC c k) () = if snd d k = true ∧ nbr d (dir k) = c then N else 0 := by
      unfold O₀
      simp only [Pi.add_apply, Finsupp.add_apply]
      rw [OB_recv, OB_recv, OB_recv, OB_recv, owedR_recv]; rfl
    rw [h1]
    have h2 : nbr (nbr c (op (dir k))) (dir k) = c := by
      have := nbr_op c (op (dir k))
      rwa [op_op] at this
    by_cases hd : d = nbr c (op (dir k))
    · subst hd
      have h3 : snd (nbr c (op (dir k))) k = act c k := by unfold snd; rw [h2]
      rw [if_pos rfl, h3]
      by_cases ha : act c k = true
      · rw [if_pos ⟨ha, h2⟩, if_pos ha]
      · rw [if_neg fun x => ha x.1, if_neg ha]
    · rw [if_neg hd, if_neg]
      rintro ⟨-, x⟩
      exact hd (by rw [← x, nbr_op])
  rw [Finset.sum_congr rfl fun d _ => e d, Finset.sum_ite_eq' Finset.univ (nbr c (op (dir k))) fun _ => _, if_pos (Finset.mem_univ _)]

omit [FloatOps F] in
theorem creds (c : Dev nD) :
    (Pipeline.launchCred O₀ c : sProp 𝕄) ⊢ iprop(cred (tallyAt (barC c) () (nHas c)) ∗ recvCreds (F := F) c) := by
  unfold Pipeline.launchCred recvCreds
  rw [bigSep_univ_at _ (SemLoc.reg barSem), launch_bar]
  refine sep_mono_right ?_
  have hinj : Function.Injective fun k : Copy => (SemLoc.dma (recvSem k) : SemLoc sig) := fun k k' h =>
    congrArg Prod.snd (osem_inj (a₁ := (true, k)) (a₂ := (true, k')) h)
  have hsub : (Finset.univ.map ⟨fun k : Copy => (SemLoc.dma (recvSem k) : SemLoc sig), hinj⟩) ⊆ Finset.univ.erase (SemLoc.reg barSem) := by
    intro x hx
    obtain ⟨k, -, rfl⟩ := Finset.mem_map.mp hx
    exact Finset.mem_erase.mpr ⟨fun h => osem_ne_bar (true, k) h, Finset.mem_univ _⟩
  refine (bigSep_subset hsub).trans ?_
  rw [bigSep_map]
  refine fam_mono fun k => ?_
  show cred (tallyOn (recvC c k) (launchCredit (Pipeline.owing O₀) 0 (recvC c k))) ⊢ _
  rw [launch_recv]
  by_cases h : act c k = true
  · rw [if_pos h, if_pos h]
  · rw [if_neg h, if_neg h]
    iintro -; iempintro

end Cert.KernelIdeal.Gather

end

end
-- ==== Proof.Run.lean ====
/- The launch: every device's kernel runs from what the launch gives it, and the whole mesh's run. -/
module

public import proofs.«01_k».proof.Proof.Alloc
public import Idealize.ShloMosaic.Lib.Pipeline.Launch
public import Idealize.ShloMosaic.Lib.Pipeline.Kit
public import Idealize.ShloMosaic.Lib.Pipeline.CollectiveSegs
public import proofs.«01_k».proof.Proof.Gen.KernelIdeal.Launch
public import proofs.«01_k».proof.Proof.Gen.KernelIdeal.Points

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def st₀ : MemSt nD τ sig (Elt F) := ⟨m, fun _ => 0, ρ⟩

/-- Device `c`'s block of `x`, and of the weights, as staged. -/
def xstg (c : Dev nD) : XC F := (win0_0.blk (0 : Fin 1)).view.read (Elt F) ((st₀ m ρ).mem ((c : Thread nD τ).loc main_arg0))
def wstg (c : Dev nD) : WC F := (win0_1.blk (0 : Fin 1)).view.read (Elt F) ((st₀ m ρ).mem ((c : Thread nD τ).loc main_arg1))

/-! ## The proof data -/

def start (c : Dev nD) : sProp 𝕄 :=
  iprop(G' (xstg m ρ) c ∗ cred (tallyAt (barC c) () (nHas c)) ∗ recvCreds (F := F) c ∗ Lev (F := F))

def Φ₀ (c : Dev nD) : sProp 𝕄 :=
  iprop(start m ρ c ∗ (∃ f : CC F, (((c : Thread nD τ).loc cc0_scratch0) ↦{fullShare} f)) ∗ (∃ f : WC F, (((c : Thread nD τ).loc cc0_scratch1) ↦{fullShare} f)))

def Φ₁ (c : Dev nD) : sProp 𝕄 :=
  iprop(((∃ f : CC F, (((c : Thread nD τ).loc cc0_scratch0) ↦{fullShare} f)) ∗ (∃ f : WC F, (((c : Thread nD τ).loc cc0_scratch1) ↦{fullShare} f)))
    ∗ semVal (barC c) 0 ∗ bigSep Finset.univ fun bk : Bool × Copy => semVal (kcell (c, some bk)) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m ρ c
    | ⟨1, _⟩ => wstg m ρ c
    | ⟨2, _⟩ => outOf (xstg m ρ) (wstg m ρ c)
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 (xstg m ρ c) ∗ stg c cc0_stg1_0 (wstg m ρ c)
    ∗ stg c cc0_stg2_0 (outOf (xstg m ρ) (wstg m ρ c)))

theorem pre_enter (c : Dev nD) : bodyPre m ρ c ⊢ ∃ K, enter (xstg m ρ) (wstg m ρ) c K := by
  unfold bodyPre Φ₀ start G' ghost enter Rec Dat.owesAt Pipeline.owesWithin
  rw [show (dats m ρ 0 c).owed t0_0.castSucc = O₀ c from rfl]
  iintro ⟨⟨⟨⟨%K, #HI, #HR, Hats, Hsig, Hcopy⟩, Hcb, Hcr, #Hlev⟩, Hc, Hb⟩, ⟨%W, %hW, HO⟩, ⟨%d0, %g0, %hg0, Hx⟩, ⟨%d1, %g1, %hg1, Hw⟩, ⟨%d2, %g2, %hg2, Ho⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  iexists K
  isplitr
  · isplitr; · iexact HI
    isplitr; · iexact HR
    iexact Hlev
  isplitl [HO]; · iexists W; iexact HO
  isplitl [Hats]; · iexact Hats
  isplitl [Hsig]; · iexact Hsig
  isplitl [Hcopy]; · iexact Hcopy
  isplitl [Hcb]; · iexact Hcb
  isplitl [Hcr]; · iexact Hcr
  isplitl [Hc]; · iexact Hc
  isplitl [Hb]; · iexact Hb
  isplitl [Hx]; · iexact Hx
  isplitl [Hw]; · iexact Hw
  iexists g2; iexact Ho

theorem leave_post (c : Dev nD) : leave (xstg m ρ) (wstg m ρ) c ⊢ bodyPost m ρ c := by
  unfold leave bodyPost Φ₁ Dat.owesAt Pipeline.owesWithin
  rw [show (dats m ρ 0 c).owed t0_0.succ = 0 from rfl]
  iintro ⟨⟨%W, HO⟩, Hc, Hb, Hx, Hw, Ho, HzB, Hz⟩
  isplitl [Hc Hb HzB Hz]
  · isplitl [Hc Hb]
    · isplitl [Hc]; · iexact Hc
      iexact Hb
    isplitl [HzB]; · iexact HzB
    iexact Hz
  isplitl [HO]
  · iexists W
    isplitr; · (ipureintro; exact fun _ _ => Or.inl trivial)
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem body_run (c : Dev nD) : bodyPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) (Memref.whole cc0_scratch1) (Memref.isWhole_whole _) cc0_scratch2 cc0_scratch3 cc0_scratch4 cc0_scratch5)
    (fun _ => bodyPost m ρ c) := by
  refine (pre_enter m ρ c).trans ?_
  iintro ⟨%K, He⟩
  iapply (sound_body (xstg m ρ) (wstg m ρ) c K (fun _ => bodyPost m ρ c))
  isplitl [He]; · iexact He
  iintro Hl
  iapply (leave_post m ρ c); iexact Hl

set_option maxRecDepth 4000 in
/-- The body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c

/-! ## The launch's side conditions -/

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m ρ) c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    unfold Lev; iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ Pipeline.ownSems0
  iintro ⟨Hr, HzB, Hz⟩
  isplitl [HzB]; · iexact HzB
  isplitl [Hz]; · iexact Hz
  iexact Hr

theorem not_osem (q : DmaSem sig) (h : ∀ x : Bool × Copy, osem x ≠ .dma q) (c : Dev nD) : lv ((c : Thread nD τ), .dma q) () = 0 := by
  show (kind (.dma q)).elim 0 lvAt = _
  have e : kind (.dma q) = none := by
    unfold kind Function.partialInv
    rw [dif_neg]
    rintro ⟨i, hi⟩
    cases i with
    | none => exact absurd hi (fun h => by cases h)
    | some x => exact h x hi
  rw [e]; rfl

theorem waits (c : Dev nD) : (levAts L lv : sProp 𝕄) ⊢ Pipeline.cellsWaits cfgs (dats m ρ) () 0 c := by
  have hl : (levAts L lv : sProp 𝕄) ⊢ Lev (F := F) := by unfold Lev; exact BI.Entails.refl _
  exact Pipeline.cellsWaits_intro cfgs (dats m ρ) () 0 c fun w s t =>
    hl.trans (mayWait_stage c _ (not_osem _ (fun x => ownSemFacts.disj x w s) c) _ (by
      rcases t with ⟨_ | _, ht⟩
      · exact Or.inl rfl
      · exact Or.inr rfl))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, the sixteen devices' kernels all terminate, with every window's array at
    what the body leaves and every counter at zero again. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xstg m ρ)) (G' := G' (xstg m ρ)) (u₀ := u₀)
    (hu₀ := by
      unfold u₀
      iintro Hu
      ihave H := (ownU_pair _ _) $$ Hu
      icases H with ⟨HP, HX⟩
      imod (fund_all (xstg m ρ)) $$ HX with HG
      imodintro
      isplitl [HP] <;> iassumption)
    (hglob := glob (xstg m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.KernelIdeal.Gather

end

end
-- ==== Proof.Frames.lean ====
/- The frames: from any memory with every counter at zero, each program ends with its arguments unchanged and
   every counter at zero. The kernel's comes from its run, at either reading of its floats; the reference's from
   its own run, and the reference declares no semaphore. -/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Adequacy

@[expose] public section

noncomputable section

namespace Cert.KernelIdeal.Gather

open Cert.KernelIdeal Cert.KernelIdeal.Gen
open Idealize.ShloMosaic Idealize.ShloMosaic.TcCoe Idealize.SL.Sem

/-- At any floats. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run Cert.KernelIdeal.defs _ _).mono
    (fun r (h : QC m ρ r ∧ r.2.sem = fun _ => 0) =>
      ⟨fun c => ⟨(h.1 c (0 : Fin 3)).trans (finalA_x m ρ c), (h.1 c (1 : Fin 3)).trans (finalA_w m ρ c)⟩, h.2⟩)
    (run_main (F := F) m ρ)

/-- The two readings of the kernel have one text: their body tables are the same, label by label. -/
theorem defs₀_eq : Cert.Kernel.defs₀ (F := Bits) = Cert.KernelIdeal.defs₀ (F := Bits) := by
  unfold Cert.Kernel.defs₀ Cert.KernelIdeal.defs₀
  refine congrArg Defs.onTc ?_
  funext n x
  match n, x with
  | 0, (t, s) => rfl

theorem defs_eq : Cert.Kernel.defs (F := Bits) = Cert.KernelIdeal.defs (F := Bits) := congrArg (Pipeline.defs _) defs₀_eq

/-- The kernel over the machine's own floats. -/
theorem frame_kernel : Cert.quiescent_Kernel := fun m ρ _ => by
  rw [defs_eq]
  exact frame_any (F := Bits) m ρ

/-- The kernel over the extended reals. -/
theorem frame_kernelIdeal : Cert.quiescent_KernelIdeal := fun m ρ _ => frame_any (F := Ideal) m ρ

/-- The reference over the extended reals. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.KernelIdeal.Gather

end
-- ==== Proof.Value.lean ====
/- What the kernel computes, over the extended reals: each entry of a device's result is the gelu of the row of `x`
   against the column of that device's weights. And that the reference computes the same. -/
module

public import proofs.«01_k».proof.Proof.Run
public import proofs.«01_k».proof.Proof.Gen.ReferenceIdeal
public import proofs.«01_k».proof.Proof.Gen.ReferenceIdeal.Run
public import Idealize.ShloMosaic.Lib.MatmulPlain
public import Idealize.ShloMosaic.Lib.StackMember
public import Idealize.ShloMosaic.PureOps.Ideal.Laws
public import Idealize.ShloMosaic.Lib.Layout

@[expose] public section

noncomputable section

namespace Cert.KernelIdeal.Gather

open Cert.KernelIdeal Cert.KernelIdeal.Gen
open Idealize.ShloMosaic Idealize.ShloMosaic.TcCoe Idealize.SL.Sem
open Idealize.ShloMosaic.ValueIdx Idealize.ShloMosaic.StackMember

/-! ## The result array at the end, at any floats -/

section Any

variable {F : FTy → Type} [FloatOps F]
variable (m : (ℓ : Loc nD τ sig) → Buf (Elt F) ℓ) (ρ : Dev nD → PrngReg)

/-- The staged block of `x` is the device's argument. -/
theorem xstg_eq (c : Dev nD) : xstg m ρ c = m ((c : Thread nD τ).loc main_arg0) :=
  Memref.read_access_unit_zero (Elt F) main_arg0
    (show (fun a => (win0_0.index (0 : Fin 1)) a * main_arg0.ty.shape.size a) = fun _ => 0 from
      funext fun a => by fin_cases a <;> decide) (fun a => by fin_cases a <;> decide) _

/-- The staged block of the weights is the device's argument. -/
theorem wstg_eq (c : Dev nD) : wstg m ρ c = m ((c : Thread nD τ).loc main_arg1) :=
  Memref.read_access_unit_zero (Elt F) main_arg1
    (show (fun a => (win0_1.index (0 : Fin 1)) a * main_arg1.ty.shape.size a) = fun _ => 0 from
      funext fun a => by fin_cases a <;> decide) (fun a => by fin_cases a <;> decide) _

/-- The result array is what the kernel left in the staging buffer. -/
theorem finalA_o (c : Dev nD) :
    finalA m ρ c (2 : Fin 3) = outOf (fun o : Dev nD => m ((o.tc : Thread nD τ).loc main_arg0)) (m ((c : Thread nD τ).loc main_arg1)) := by
  have hread : (win0_2.blk (0 : Fin 1)).view.read (Elt F) (finalA m ρ c (2 : Fin 3)) = outOf (xstg m ρ) (wstg m ρ c) := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hid := Memref.read_access_unit_zero (Elt F) main_v1
    (show (fun a => (win0_2.index (0 : Fin 1)) a * main_v1.ty.shape.size a) = fun _ => 0 from
      funext fun a => by fin_cases a <;> decide) (fun a => by fin_cases a <;> decide) (finalA m ρ c (2 : Fin 3))
  refine (hid.symm.trans hread).trans ?_
  rw [wstg_eq, show xstg m ρ = fun o : Dev nD => m ((o.tc : Thread nD τ).loc main_arg0) from funext (xstg_eq m ρ)]

end Any

/-! ## Over the extended reals -/

/-- The gelu, with the reference's association. -/
def gelu (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * ((y * y) * y))))

/-- The kernel's entry: the gelu of the row against the column. -/
theorem gemmVal_apply (v : Vec Ideal S1x128x2048 .bf16) (w : Vec Ideal S2048x128 .bf16) (r j : Fin 128) :
    gemmVal v w (ix2 r j) = gelu (∑ k : Fin 2048, (k0_pay3 v (ix2 r k) : EReal) * w (ix2 k j)) := by
  have hy := Ideal.matmul_plain_apply (M := 128) (K := 2048) (N := 128) (φ₁ := .bf16) (φ₂ := .bf16) none (k0_pay3 v) w
    (constant S128x128 .f32 0x00000000#32) r j
  have hz : (constant (F := Ideal) S128x128 .f32 0x00000000#32 : FVec Ideal S128x128 .f32) (ix2 r j) = (0 : EReal) := Ideal.ofBits_zero_f32
  rw [hz, zero_add] at hy
  rw [← hy]
  generalize hY : FloatOps.matmul (DotDims.plain 128 2048 128) none (k0_pay3 v) w (constant S128x128 .f32 0x00000000#32) = Y
  have e : gemmVal v w (ix2 r j) = (Ideal.ofBits .f32 0x3F000000#32 * Y (ix2 r j)) * (Ideal.ofBits .f32 0x3F800000#32
    + Ideal.tanh (Ideal.ofBits .f32 0x3F4C422A#32 * (Y (ix2 r j) + ((Ideal.ofBits .f32 0x3D372713#32 * Y (ix2 r j)) * Y (ix2 r j)) * Y (ix2 r j)))) := by
    rw [← hY]; rfl
  rw [e]; unfold gelu; simp only [mul_assoc]

/-- The product of the whole arrays, as the reference takes it: its two casts of the product are the identity over
    the extended reals. -/
def refDot (x w : FVec Ideal Cert.ReferenceIdeal.S2048x2048 .bf16) : FVec Ideal Cert.ReferenceIdeal.S2048x2048 .f32 :=
  Host.dotGeneral Cert.ReferenceIdeal.dot_S2048x2048_S2048x2048_S2048x2048_1_0_0_1_n_n none x w

/-- A number, spread over the whole array. -/
abbrev spread (b : BitVec 32) : FVec Ideal Cert.ReferenceIdeal.S2048x2048 .f32 :=
  broadcastInDim Cert.ReferenceIdeal.S2048x2048 ![] Cert.ReferenceIdeal.Gen.facts.toFacts₀.bcast_S_S2048x2048
    (constant Cert.ReferenceIdeal.S_ .f32 b)

/-- What the reference makes of the product. -/
def refGelu (y : FVec Ideal Cert.ReferenceIdeal.S2048x2048 .f32) : FVec Ideal Cert.ReferenceIdeal.S2048x2048 .f32 :=
  mulf (mulf (spread 0x3F000000#32) y) (addf (spread 0x3F800000#32)
    (Host.tanh (mulf (spread 0x3F4C422A#32) (addf y (mulf (spread 0x3D372713#32) (mulf (mulf y y) y))))))

theorem refDot_apply (x w : FVec Ideal Cert.ReferenceIdeal.S2048x2048 .bf16) (i j : Fin 2048) :
    refDot x w (ix2 i j) = ∑ k : Fin 2048, (x (ix2 i k) : EReal) * w (ix2 k j) :=
  dotGeneral_plain_apply (m := 2048) (k := 2048) (n := 2048) none x w i j

theorem refGelu_apply (y : FVec Ideal Cert.ReferenceIdeal.S2048x2048 .f32) (i : Cert.ReferenceIdeal.S2048x2048.Idx) :
    refGelu y i = gelu (y i) := rfl

/-- A slot read as a load reads it, as a matrix, is the block it holds. -/
theorem pay3_apply (x : XC Ideal) (r : Fin 128) (k : Fin 2048) : k0_pay3 (slotVec x) (ix2 r k) = x (ix2 r k) := by
  unfold k0_pay3
  refine (shapeCast_dropUnit_apply ![128, 2048] (slotVec x) _ (ix2 r k)).trans (congrArg x ?_)
  funext a
  match a with | ⟨0, _⟩ => rfl | ⟨1, _⟩ => rfl

/-- Row `i` of the whole array is row `i % 128` of the block of device `i / 128`; column `j` of device `c`'s block is
    column `128 * c + j` of the whole. -/
theorem out_eq (x w : FVec Ideal Cert.ReferenceIdeal.S2048x2048 .bf16) (c : Dev nD) (w' : WC Ideal)
    (X : Dev nD → XC Ideal)
    (hX : ∀ o, X o = Layout.block ⟨2, ![128, 2048]⟩ ⟨2, ![2048, 2048]⟩ 0 16 o x)
    (hw : w' = Layout.block ⟨2, ![2048, 128]⟩ ⟨2, ![2048, 2048]⟩ 1 16 c w) :
    outOf X w' = Layout.block ⟨2, ![2048, 128]⟩ ⟨2, ![2048, 2048]⟩ 1 16 c (refGelu (refDot x w)) := by
  funext i
  have hi : i = ix2 (n0 := 2048) (n1 := 128) (i (0 : Fin 2)) (i (1 : Fin 2)) := eq_ix2 (n0 := 2048) (n1 := 128) i
  have hj : 128 * c.val + (i (1 : Fin 2)).val < 2048 := by
    have h1 : c.val < 16 := c.isLt
    have h2 : (i (1 : Fin 2)).val < 128 := (i (1 : Fin 2)).isLt
    omega
  have hcol : ∀ (k : Fin 2048) (h : Layout.Tiles ⟨2, ![2048, 128]⟩ ⟨2, ![2048, 2048]⟩ 1 16),
      h.idx c (ix2 (n0 := 2048) (n1 := 128) k (i (1 : Fin 2))) = ix2 (n0 := 2048) (n1 := 2048) k ⟨128 * c.val + (i (1 : Fin 2)).val, hj⟩ := by
    intro k h
    funext a; apply Fin.ext
    match a with
    | ⟨0, _⟩ => rfl
    | ⟨1, _⟩ => show c.val * 128 + _ = 128 * c.val + _; rw [Nat.mul_comm]; rfl
  have hrow : ∀ (k : Fin 2048) (h : Layout.Tiles ⟨2, ![128, 2048]⟩ ⟨2, ![2048, 2048]⟩ 0 16),
      h.idx (rowDev i) (ix2 (n0 := 128) (n1 := 2048) ⟨(i (0 : Fin 2)).val % 128, Nat.mod_lt _ (by decide)⟩ k)
        = ix2 (n0 := 2048) (n1 := 2048) (i (0 : Fin 2)) k := by
    intro k h
    funext a; apply Fin.ext
    match a with
    | ⟨0, _⟩ => exact Nat.div_add_mod' (i (0 : Fin 2)).val 128
    | ⟨1, _⟩ => rfl
  have hL : outOf X w' i = gelu (∑ k : Fin 2048, (x (ix2 (n0 := 2048) (n1 := 2048) (i (0 : Fin 2)) k) : EReal)
      * w (ix2 (n0 := 2048) (n1 := 2048) k ⟨128 * c.val + (i (1 : Fin 2)).val, hj⟩)) := by
    refine (gemmVal_apply _ _ _ _).trans (congrArg gelu (Finset.sum_congr rfl fun k _ => ?_))
    rw [pay3_apply, hX, hw, Layout.block_apply, Layout.block_apply, hrow, hcol]
  have hI : ∀ h : Layout.Tiles ⟨2, ![2048, 128]⟩ ⟨2, ![2048, 2048]⟩ 1 16,
      h.idx c i = ix2 (n0 := 2048) (n1 := 2048) (i (0 : Fin 2)) ⟨128 * c.val + (i (1 : Fin 2)).val, hj⟩ :=
    fun h => (congrArg (h.idx c) hi).trans (hcol _ h)
  rw [hL, Layout.block_apply, refGelu_apply, hI]
  exact congrArg gelu (refDot_apply x w _ _).symm

end Cert.KernelIdeal.Gather

end
-- ==== Proof.Algebraic.lean ====
/- The value claim: over the extended reals, from arguments that are the blocks of the reference's, every device
   ends holding its block of the reference's result. -/
module

public import proofs.«01_k».proof.Defs
public import proofs.«01_k».proof.Proof.Value

@[expose] public section

noncomputable section

namespace Cert.KernelIdeal.Gather

open Cert.KernelIdeal Cert.KernelIdeal.Gen
open Idealize.ShloMosaic Idealize.ShloMosaic.TcCoe Idealize.SL.Sem

theorem algebraic : Cert.algebraic_KernelIdeal_ReferenceIdeal := by
  intro m ρ m' ρ' _ hagree
  refine ⟨refGelu (refDot (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))), ?_, ?_⟩
  · exact (θ_run defs _ _).mono
      (fun r (h : QC m ρ r ∧ r.2.sem = fun _ => 0) c =>
        ⟨((h.1 c (2 : Fin 3)).trans (finalA_o m ρ c)).trans
            (out_eq _ _ c _ _ (fun o => (hagree o).1) (hagree c).2),
          (h.1 c (0 : Fin 3)).trans (finalA_x m ρ c), (h.1 c (1 : Fin 3)).trans (finalA_w m ρ c)⟩)
      (run_main (F := Ideal) m ρ)
  · exact (θ_run Cert.ReferenceIdeal.defs _ _).mono (fun _ h => h 0) (Cert.ReferenceIdeal.Value.run (F := Ideal) m' ρ')

end Cert.KernelIdeal.Gather

end
-- ==== Proof.lean ====
/- The claims of this directory, put together: the three frames (Frames), the idealization, which rewrites
   nothing, and the value of the kernel over the extended reals (Algebraic). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.KernelIdeal.Gather.frame_kernel, Cert.KernelIdeal.Gather.frame_kernelIdeal,
    Cert.KernelIdeal.Gather.frame_referenceIdeal, trivial, Cert.KernelIdeal.Gather.algebraic⟩

end Cert.Proof

end
